-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Wide (m : (ℓ : Loc Cert.Wide.nD Cert.Wide.τ Cert.Wide.sig) → Buf (Elt Bits) ℓ) : Prop :=
  True

def Pre_WideIdeal (m : (ℓ : Loc Cert.WideIdeal.nD Cert.WideIdeal.τ Cert.WideIdeal.sig) → Buf (Elt Ideal) ℓ) : Prop :=
  True

def Pre_WideRefIdeal (m : (ℓ : Loc Cert.WideRefIdeal.nD Cert.WideRefIdeal.τ Cert.WideRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_Wide [hWide : Cert.Wide.Facts] : Prop :=
  ∀ (m : (ℓ : Loc Cert.Wide.nD Cert.Wide.τ Cert.Wide.sig) → Buf (Elt Bits) ℓ) (g : Dev Cert.Wide.nD → PrngReg), Pre_Wide m →
    θ_run (Cert.Wide.defs (F := Bits)) (onTc (τ := Cert.Wide.τ) (Cert.Wide.main (F := Bits))) ⟨m, fun _ => 0, g⟩ (fun r => (∀ c : Dev Cert.Wide.nD,
      r.2.mem ((c.tc : Thread Cert.Wide.nD Cert.Wide.τ).loc Cert.Wide.main_arg0) = m ((c.tc : Thread Cert.Wide.nD Cert.Wide.τ).loc Cert.Wide.main_arg0)
      ∧ r.2.mem ((c.tc : Thread Cert.Wide.nD Cert.Wide.τ).loc Cert.Wide.main_arg1) = m ((c.tc : Thread Cert.Wide.nD Cert.Wide.τ).loc Cert.Wide.main_arg1)
      ∧ r.2.mem ((c.tc : Thread Cert.Wide.nD Cert.Wide.τ).loc Cert.Wide.main_arg2) = m ((c.tc : Thread Cert.Wide.nD Cert.Wide.τ).loc Cert.Wide.main_arg2)
      ∧ r.2.mem ((c.tc : Thread Cert.Wide.nD Cert.Wide.τ).loc Cert.Wide.main_arg3) = m ((c.tc : Thread Cert.Wide.nD Cert.Wide.τ).loc Cert.Wide.main_arg3)
      ∧ r.2.mem ((c.tc : Thread Cert.Wide.nD Cert.Wide.τ).loc Cert.Wide.main_arg4) = m ((c.tc : Thread Cert.Wide.nD Cert.Wide.τ).loc Cert.Wide.main_arg4)
      ∧ r.2.mem ((c.tc : Thread Cert.Wide.nD Cert.Wide.τ).loc Cert.Wide.main_arg5) = m ((c.tc : Thread Cert.Wide.nD Cert.Wide.τ).loc Cert.Wide.main_arg5)
      ∧ r.2.mem ((c.tc : Thread Cert.Wide.nD Cert.Wide.τ).loc Cert.Wide.main_arg6) = m ((c.tc : Thread Cert.Wide.nD Cert.Wide.τ).loc Cert.Wide.main_arg6))
      ∧ r.2.sem = fun _ => 0)

def quiescent_WideIdeal [hWideIdeal : Cert.WideIdeal.Facts] : Prop :=
  ∀ (m : (ℓ : Loc Cert.WideIdeal.nD Cert.WideIdeal.τ Cert.WideIdeal.sig) → Buf (Elt Ideal) ℓ) (g : Dev Cert.WideIdeal.nD → PrngReg), Pre_WideIdeal m →
    θ_run (Cert.WideIdeal.defs (F := Ideal)) (onTc (τ := Cert.WideIdeal.τ) (Cert.WideIdeal.main (F := Ideal))) ⟨m, fun _ => 0, g⟩ (fun r => (∀ c : Dev Cert.WideIdeal.nD,
      r.2.mem ((c.tc : Thread Cert.WideIdeal.nD Cert.WideIdeal.τ).loc Cert.WideIdeal.main_arg0) = m ((c.tc : Thread Cert.WideIdeal.nD Cert.WideIdeal.τ).loc Cert.WideIdeal.main_arg0)
      ∧ r.2.mem ((c.tc : Thread Cert.WideIdeal.nD Cert.WideIdeal.τ).loc Cert.WideIdeal.main_arg1) = m ((c.tc : Thread Cert.WideIdeal.nD Cert.WideIdeal.τ).loc Cert.WideIdeal.main_arg1)
      ∧ r.2.mem ((c.tc : Thread Cert.WideIdeal.nD Cert.WideIdeal.τ).loc Cert.WideIdeal.main_arg2) = m ((c.tc : Thread Cert.WideIdeal.nD Cert.WideIdeal.τ).loc Cert.WideIdeal.main_arg2)
      ∧ r.2.mem ((c.tc : Thread Cert.WideIdeal.nD Cert.WideIdeal.τ).loc Cert.WideIdeal.main_arg3) = m ((c.tc : Thread Cert.WideIdeal.nD Cert.WideIdeal.τ).loc Cert.WideIdeal.main_arg3)
      ∧ r.2.mem ((c.tc : Thread Cert.WideIdeal.nD Cert.WideIdeal.τ).loc Cert.WideIdeal.main_arg4) = m ((c.tc : Thread Cert.WideIdeal.nD Cert.WideIdeal.τ).loc Cert.WideIdeal.main_arg4)
      ∧ r.2.mem ((c.tc : Thread Cert.WideIdeal.nD Cert.WideIdeal.τ).loc Cert.WideIdeal.main_arg5) = m ((c.tc : Thread Cert.WideIdeal.nD Cert.WideIdeal.τ).loc Cert.WideIdeal.main_arg5)
      ∧ r.2.mem ((c.tc : Thread Cert.WideIdeal.nD Cert.WideIdeal.τ).loc Cert.WideIdeal.main_arg6) = m ((c.tc : Thread Cert.WideIdeal.nD Cert.WideIdeal.τ).loc Cert.WideIdeal.main_arg6))
      ∧ r.2.sem = fun _ => 0)

def quiescent_WideRefIdeal [hWideRefIdeal : Cert.WideRefIdeal.Facts] : Prop :=
  ∀ (m : (ℓ : Loc Cert.WideRefIdeal.nD Cert.WideRefIdeal.τ Cert.WideRefIdeal.sig) → Buf (Elt Ideal) ℓ) (g : Dev Cert.WideRefIdeal.nD → PrngReg), Pre_WideRefIdeal m →
    θ_run (Cert.WideRefIdeal.defs (F := Ideal)) (onTc (τ := Cert.WideRefIdeal.τ) (Cert.WideRefIdeal.main (F := Ideal))) ⟨m, fun _ => 0, g⟩ (fun r => (∀ c : Dev Cert.WideRefIdeal.nD,
      r.2.mem ((c.tc : Thread Cert.WideRefIdeal.nD Cert.WideRefIdeal.τ).loc Cert.WideRefIdeal.main_arg0) = m ((c.tc : Thread Cert.WideRefIdeal.nD Cert.WideRefIdeal.τ).loc Cert.WideRefIdeal.main_arg0)
      ∧ r.2.mem ((c.tc : Thread Cert.WideRefIdeal.nD Cert.WideRefIdeal.τ).loc Cert.WideRefIdeal.main_arg1) = m ((c.tc : Thread Cert.WideRefIdeal.nD Cert.WideRefIdeal.τ).loc Cert.WideRefIdeal.main_arg1)
      ∧ r.2.mem ((c.tc : Thread Cert.WideRefIdeal.nD Cert.WideRefIdeal.τ).loc Cert.WideRefIdeal.main_arg2) = m ((c.tc : Thread Cert.WideRefIdeal.nD Cert.WideRefIdeal.τ).loc Cert.WideRefIdeal.main_arg2)
      ∧ r.2.mem ((c.tc : Thread Cert.WideRefIdeal.nD Cert.WideRefIdeal.τ).loc Cert.WideRefIdeal.main_arg3) = m ((c.tc : Thread Cert.WideRefIdeal.nD Cert.WideRefIdeal.τ).loc Cert.WideRefIdeal.main_arg3)
      ∧ r.2.mem ((c.tc : Thread Cert.WideRefIdeal.nD Cert.WideRefIdeal.τ).loc Cert.WideRefIdeal.main_arg4) = m ((c.tc : Thread Cert.WideRefIdeal.nD Cert.WideRefIdeal.τ).loc Cert.WideRefIdeal.main_arg4)
      ∧ r.2.mem ((c.tc : Thread Cert.WideRefIdeal.nD Cert.WideRefIdeal.τ).loc Cert.WideRefIdeal.main_arg5) = m ((c.tc : Thread Cert.WideRefIdeal.nD Cert.WideRefIdeal.τ).loc Cert.WideRefIdeal.main_arg5)
      ∧ r.2.mem ((c.tc : Thread Cert.WideRefIdeal.nD Cert.WideRefIdeal.τ).loc Cert.WideRefIdeal.main_arg6) = m ((c.tc : Thread Cert.WideRefIdeal.nD Cert.WideRefIdeal.τ).loc Cert.WideRefIdeal.main_arg6))
      ∧ r.2.sem = fun _ => 0)

def preserves_Kernel_KernelIdeal : Prop :=
  IdealRules.named_const.Statement Cert.KernelIdeal.κ "g0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "g1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "g2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "g3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)) →
    ∃ (v0 : (c : Dev Cert.MidIdeal.nD) → Buf (Elt Ideal) ((c.tc : Thread Cert.MidIdeal.nD Cert.MidIdeal.τ).loc Cert.MidIdeal.main_v4_0)) (v1 : (c : Dev Cert.MidIdeal.nD) → Buf (Elt Ideal) ((c.tc : Thread Cert.MidIdeal.nD Cert.MidIdeal.τ).loc Cert.MidIdeal.main_v4_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v4_0) = v0 c
          ∧ r.2.mem ((c.tc : Thread Cert.MidIdeal.nD Cert.MidIdeal.τ).loc Cert.MidIdeal.main_v4_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v16) = v0 c
          ∧ r.2.mem ((c.tc : Thread Cert.MidRefIdeal.nD Cert.MidRefIdeal.τ).loc Cert.MidRefIdeal.main_v31) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)) →
    ∃ (v0 : (c : Dev Cert.FirstIdeal.nD) → Buf (Elt Ideal) ((c.tc : Thread Cert.FirstIdeal.nD Cert.FirstIdeal.τ).loc Cert.FirstIdeal.main_v2)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v2) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v14) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v16) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def preserves_Wide_WideIdeal : Prop :=
  True

def algebraic_WideIdeal_WideRefIdeal [hWideIdeal : Cert.WideIdeal.Facts] [hWideRefIdeal : Cert.WideRefIdeal.Facts] : Prop :=
  ∀ (m : (ℓ : Loc Cert.WideIdeal.nD Cert.WideIdeal.τ Cert.WideIdeal.sig) → Buf (Elt Ideal) ℓ) (g : Dev Cert.WideIdeal.nD → PrngReg)
    (m' : (ℓ : Loc Cert.WideRefIdeal.nD Cert.WideRefIdeal.τ Cert.WideRefIdeal.sig) → Buf (Elt Ideal) ℓ) (g' : Dev Cert.WideRefIdeal.nD → PrngReg), Pre_WideIdeal m →
    (∀ c : Dev Cert.WideIdeal.nD,
      m' ((c.tc : Thread Cert.WideRefIdeal.nD Cert.WideRefIdeal.τ).loc Cert.WideRefIdeal.main_arg0) = m ((c.tc : Thread Cert.WideIdeal.nD Cert.WideIdeal.τ).loc Cert.WideIdeal.main_arg0)
      ∧ m' ((c.tc : Thread Cert.WideRefIdeal.nD Cert.WideRefIdeal.τ).loc Cert.WideRefIdeal.main_arg1) = m ((c.tc : Thread Cert.WideIdeal.nD Cert.WideIdeal.τ).loc Cert.WideIdeal.main_arg1)
      ∧ m' ((c.tc : Thread Cert.WideRefIdeal.nD Cert.WideRefIdeal.τ).loc Cert.WideRefIdeal.main_arg2) = m ((c.tc : Thread Cert.WideIdeal.nD Cert.WideIdeal.τ).loc Cert.WideIdeal.main_arg2)
      ∧ m' ((c.tc : Thread Cert.WideRefIdeal.nD Cert.WideRefIdeal.τ).loc Cert.WideRefIdeal.main_arg3) = m ((c.tc : Thread Cert.WideIdeal.nD Cert.WideIdeal.τ).loc Cert.WideIdeal.main_arg3)
      ∧ m' ((c.tc : Thread Cert.WideRefIdeal.nD Cert.WideRefIdeal.τ).loc Cert.WideRefIdeal.main_arg4) = m ((c.tc : Thread Cert.WideIdeal.nD Cert.WideIdeal.τ).loc Cert.WideIdeal.main_arg4)
      ∧ m' ((c.tc : Thread Cert.WideRefIdeal.nD Cert.WideRefIdeal.τ).loc Cert.WideRefIdeal.main_arg5) = m ((c.tc : Thread Cert.WideIdeal.nD Cert.WideIdeal.τ).loc Cert.WideIdeal.main_arg5)
      ∧ m' ((c.tc : Thread Cert.WideRefIdeal.nD Cert.WideRefIdeal.τ).loc Cert.WideRefIdeal.main_arg6) = m ((c.tc : Thread Cert.WideIdeal.nD Cert.WideIdeal.τ).loc Cert.WideIdeal.main_arg6)) →
    ∃ (v0 : (c : Dev Cert.WideIdeal.nD) → Buf (Elt Ideal) ((c.tc : Thread Cert.WideIdeal.nD Cert.WideIdeal.τ).loc Cert.WideIdeal.main_v4_0)) (v1 : (c : Dev Cert.WideIdeal.nD) → Buf (Elt Ideal) ((c.tc : Thread Cert.WideIdeal.nD Cert.WideIdeal.τ).loc Cert.WideIdeal.main_v4_1)),
      θ_run (Cert.WideIdeal.defs (F := Ideal)) (onTc (τ := Cert.WideIdeal.τ) (Cert.WideIdeal.main (F := Ideal))) ⟨m, fun _ => 0, g⟩ (fun r => ∀ c : Dev Cert.WideIdeal.nD,
          r.2.mem ((c.tc : Thread Cert.WideIdeal.nD Cert.WideIdeal.τ).loc Cert.WideIdeal.main_v4_0) = v0 c
          ∧ r.2.mem ((c.tc : Thread Cert.WideIdeal.nD Cert.WideIdeal.τ).loc Cert.WideIdeal.main_v4_1) = v1 c
          ∧ r.2.mem ((c.tc : Thread Cert.WideIdeal.nD Cert.WideIdeal.τ).loc Cert.WideIdeal.main_arg0) = m ((c.tc : Thread Cert.WideIdeal.nD Cert.WideIdeal.τ).loc Cert.WideIdeal.main_arg0)
          ∧ r.2.mem ((c.tc : Thread Cert.WideIdeal.nD Cert.WideIdeal.τ).loc Cert.WideIdeal.main_arg1) = m ((c.tc : Thread Cert.WideIdeal.nD Cert.WideIdeal.τ).loc Cert.WideIdeal.main_arg1)
          ∧ r.2.mem ((c.tc : Thread Cert.WideIdeal.nD Cert.WideIdeal.τ).loc Cert.WideIdeal.main_arg2) = m ((c.tc : Thread Cert.WideIdeal.nD Cert.WideIdeal.τ).loc Cert.WideIdeal.main_arg2)
          ∧ r.2.mem ((c.tc : Thread Cert.WideIdeal.nD Cert.WideIdeal.τ).loc Cert.WideIdeal.main_arg3) = m ((c.tc : Thread Cert.WideIdeal.nD Cert.WideIdeal.τ).loc Cert.WideIdeal.main_arg3)
          ∧ r.2.mem ((c.tc : Thread Cert.WideIdeal.nD Cert.WideIdeal.τ).loc Cert.WideIdeal.main_arg4) = m ((c.tc : Thread Cert.WideIdeal.nD Cert.WideIdeal.τ).loc Cert.WideIdeal.main_arg4)
          ∧ r.2.mem ((c.tc : Thread Cert.WideIdeal.nD Cert.WideIdeal.τ).loc Cert.WideIdeal.main_arg5) = m ((c.tc : Thread Cert.WideIdeal.nD Cert.WideIdeal.τ).loc Cert.WideIdeal.main_arg5)
          ∧ r.2.mem ((c.tc : Thread Cert.WideIdeal.nD Cert.WideIdeal.τ).loc Cert.WideIdeal.main_arg6) = m ((c.tc : Thread Cert.WideIdeal.nD Cert.WideIdeal.τ).loc Cert.WideIdeal.main_arg6))
      ∧ θ_run (Cert.WideRefIdeal.defs (F := Ideal)) (onTc (τ := Cert.WideRefIdeal.τ) (Cert.WideRefIdeal.main (F := Ideal))) ⟨m', fun _ => 0, g'⟩ (fun r => ∀ c : Dev Cert.WideRefIdeal.nD,
          r.2.mem ((c.tc : Thread Cert.WideRefIdeal.nD Cert.WideRefIdeal.τ).loc Cert.WideRefIdeal.main_v16) = v0 c
          ∧ r.2.mem ((c.tc : Thread Cert.WideRefIdeal.nD Cert.WideRefIdeal.τ).loc Cert.WideRefIdeal.main_v31) = v1 c
          ∧ r.2.mem ((c.tc : Thread Cert.WideRefIdeal.nD Cert.WideRefIdeal.τ).loc Cert.WideRefIdeal.main_arg0) = m' ((c.tc : Thread Cert.WideRefIdeal.nD Cert.WideRefIdeal.τ).loc Cert.WideRefIdeal.main_arg0)
          ∧ r.2.mem ((c.tc : Thread Cert.WideRefIdeal.nD Cert.WideRefIdeal.τ).loc Cert.WideRefIdeal.main_arg1) = m' ((c.tc : Thread Cert.WideRefIdeal.nD Cert.WideRefIdeal.τ).loc Cert.WideRefIdeal.main_arg1)
          ∧ r.2.mem ((c.tc : Thread Cert.WideRefIdeal.nD Cert.WideRefIdeal.τ).loc Cert.WideRefIdeal.main_arg2) = m' ((c.tc : Thread Cert.WideRefIdeal.nD Cert.WideRefIdeal.τ).loc Cert.WideRefIdeal.main_arg2)
          ∧ r.2.mem ((c.tc : Thread Cert.WideRefIdeal.nD Cert.WideRefIdeal.τ).loc Cert.WideRefIdeal.main_arg3) = m' ((c.tc : Thread Cert.WideRefIdeal.nD Cert.WideRefIdeal.τ).loc Cert.WideRefIdeal.main_arg3)
          ∧ r.2.mem ((c.tc : Thread Cert.WideRefIdeal.nD Cert.WideRefIdeal.τ).loc Cert.WideRefIdeal.main_arg4) = m' ((c.tc : Thread Cert.WideRefIdeal.nD Cert.WideRefIdeal.τ).loc Cert.WideRefIdeal.main_arg4)
          ∧ r.2.mem ((c.tc : Thread Cert.WideRefIdeal.nD Cert.WideRefIdeal.τ).loc Cert.WideRefIdeal.main_arg5) = m' ((c.tc : Thread Cert.WideRefIdeal.nD Cert.WideRefIdeal.τ).loc Cert.WideRefIdeal.main_arg5)
          ∧ r.2.mem ((c.tc : Thread Cert.WideRefIdeal.nD Cert.WideRefIdeal.τ).loc Cert.WideRefIdeal.main_arg6) = m' ((c.tc : Thread Cert.WideRefIdeal.nD Cert.WideRefIdeal.τ).loc Cert.WideRefIdeal.main_arg6))

def Claim : Prop :=
  ∃ (hKernel : Cert.Kernel.Facts) (hKernelIdeal : Cert.KernelIdeal.Facts) (hReferenceIdeal : Cert.ReferenceIdeal.Facts) (hMid : Cert.Mid.Facts) (hMidIdeal : Cert.MidIdeal.Facts) (hMidRefIdeal : Cert.MidRefIdeal.Facts) (hFirst : Cert.First.Facts) (hFirstIdeal : Cert.FirstIdeal.Facts) (hFirstRefIdeal : Cert.FirstRefIdeal.Facts) (hLast : Cert.Last.Facts) (hLastIdeal : Cert.LastIdeal.Facts) (hLastRefIdeal : Cert.LastRefIdeal.Facts) (hWide : Cert.Wide.Facts) (hWideIdeal : Cert.WideIdeal.Facts) (hWideRefIdeal : Cert.WideRefIdeal.Facts),
    quiescent_Kernel (hKernel := hKernel)
    ∧ quiescent_KernelIdeal (hKernelIdeal := hKernelIdeal)
    ∧ quiescent_ReferenceIdeal (hReferenceIdeal := hReferenceIdeal)
    ∧ quiescent_Mid (hMid := hMid)
    ∧ quiescent_MidIdeal (hMidIdeal := hMidIdeal)
    ∧ quiescent_MidRefIdeal (hMidRefIdeal := hMidRefIdeal)
    ∧ quiescent_First (hFirst := hFirst)
    ∧ quiescent_FirstIdeal (hFirstIdeal := hFirstIdeal)
    ∧ quiescent_FirstRefIdeal (hFirstRefIdeal := hFirstRefIdeal)
    ∧ quiescent_Last (hLast := hLast)
    ∧ quiescent_LastIdeal (hLastIdeal := hLastIdeal)
    ∧ quiescent_LastRefIdeal (hLastRefIdeal := hLastRefIdeal)
    ∧ quiescent_Wide (hWide := hWide)
    ∧ quiescent_WideIdeal (hWideIdeal := hWideIdeal)
    ∧ quiescent_WideRefIdeal (hWideRefIdeal := hWideRefIdeal)
    ∧ preserves_Kernel_KernelIdeal
    ∧ algebraic_KernelIdeal_ReferenceIdeal (hKernelIdeal := hKernelIdeal) (hReferenceIdeal := hReferenceIdeal)
    ∧ preserves_Mid_MidIdeal
    ∧ algebraic_MidIdeal_MidRefIdeal (hMidIdeal := hMidIdeal) (hMidRefIdeal := hMidRefIdeal)
    ∧ preserves_First_FirstIdeal
    ∧ algebraic_FirstIdeal_FirstRefIdeal (hFirstIdeal := hFirstIdeal) (hFirstRefIdeal := hFirstRefIdeal)
    ∧ preserves_Last_LastIdeal
    ∧ algebraic_LastIdeal_LastRefIdeal (hLastIdeal := hLastIdeal) (hLastRefIdeal := hLastRefIdeal)
    ∧ preserves_Wide_WideIdeal
    ∧ algebraic_WideIdeal_WideRefIdeal (hWideIdeal := hWideIdeal) (hWideRefIdeal := hWideRefIdeal)
-- ==== Kernel.lean ====
abbrev S16x2048x3584 : Shape := ⟨3, ![16, 2048, 3584]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S1x1x128 : Shape := ⟨3, ![1, 1, 128]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x8x32 : Shape := ⟨4, ![1, 2048, 8, 32]⟩
abbrev S2048x256 : Shape := ⟨2, ![2048, 256]⟩
abbrev S256x256 : Shape := ⟨2, ![256, 256]⟩
abbrev S4x128x1 : Shape := ⟨3, ![4, 128, 1]⟩
abbrev S16x2048x512 : Shape := ⟨3, ![16, 2048, 512]⟩
abbrev S16x128x256 : Shape := ⟨3, ![16, 128, 256]⟩
abbrev S16x128x512 : Shape := ⟨3, ![16, 128, 512]⟩
abbrev S128x256 : Shape := ⟨2, ![128, 256]⟩
abbrev S16x4x128x128 : Shape := ⟨4, ![16, 4, 128, 128]⟩
abbrev S1x128x256 : Shape := ⟨3, ![1, 128, 256]⟩
abbrev S1x1x128x128 : Shape := ⟨4, ![1, 1, 128, 128]⟩

abbrev nBuf : Space → Nat
  | .hbm => 111
  | .vmem => 19
  | .smem => 0
  | _ => 0

abbrev bufTy : (tb : Table) → Fin (tcTables nBuf tb) → BufTy
  | .hbm, ⟨0, _⟩ => ⟨S16x2048x3584, .bf16⟩
  | .hbm, ⟨1, _⟩ => ⟨S4, .f32⟩
  | .hbm, ⟨2, _⟩ => ⟨S_, .f32⟩
  | .hbm, ⟨3, _⟩ => ⟨S4, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S128, .f32⟩
  | .hbm, ⟨13, _⟩ => ⟨S128x1, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .i1⟩
  | .hbm, ⟨21, _⟩ => ⟨S4x1x1, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S1x128x128, .f32⟩
  | .hbm, ⟨26, _⟩ => ⟨S4x128x128, .f32⟩
  | .hbm, ⟨27, _⟩ => ⟨S4x128x128, .f32⟩
  | .hbm, ⟨28, _⟩ => ⟨S4x128x128, .f32⟩
  | .hbm, ⟨29, _⟩ => ⟨S4x128x128, .f32⟩
  | .hbm, ⟨30, _⟩ => ⟨S_, .f32⟩
  | .hbm, ⟨31, _⟩ => ⟨S_, .f32⟩
  | .hbm, ⟨32, _⟩ => ⟨S4x128x128, .i1⟩
  | .hbm, ⟨33, _⟩ => ⟨S4x128x128, .f32⟩
  | .hbm, ⟨34, _⟩ => ⟨S4x128x128, .f32⟩
  | .hbm, ⟨35, _⟩ => ⟨S4x1, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S4x128, .f32⟩
  | .hbm, ⟨44, _⟩ => ⟨S4x1, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S4x128, .f32⟩
  | .hbm, ⟨50, _⟩ => ⟨S4x128, .f32⟩
  | .hbm, ⟨51, _⟩ => ⟨S4x128, .f32⟩
  | .hbm, ⟨52, _⟩ => ⟨S4x128, .f32⟩
  | .hbm, ⟨53, _⟩ => ⟨S_, .f32⟩
  | .hbm, ⟨54, _⟩ => ⟨S1x1x128, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S2048, .f32⟩
  | .hbm, ⟨64, _⟩ => ⟨S2048x1, .f32⟩
  | .hbm, ⟨65, _⟩ => ⟨S1x32, .f32⟩
  | .hbm, ⟨66, _⟩ => ⟨S2048x32, .f32⟩
  | .hbm, ⟨67, _⟩ => ⟨S2048x32, .f32⟩
  | .hbm, ⟨68, _⟩ => ⟨S2048x32, .f32⟩
  | .hbm, ⟨69, _⟩ => ⟨S2048x32, .f32⟩
  | .hbm, ⟨70, _⟩ => ⟨S1x2048x1x32, .f32⟩
  | .hbm, ⟨71, _⟩ => ⟨S1x2048x8x32, .f32⟩
  | .hbm, ⟨72, _⟩ => ⟨S2048x256, .f32⟩
  | .hbm, ⟨73, _⟩ => ⟨S2048x32, .f32⟩
  | .hbm, ⟨74, _⟩ => ⟨S1x2048x1x32, .f32⟩
  | .hbm, ⟨75, _⟩ => ⟨S1x2048x8x32, .f32⟩
  | .hbm, ⟨76, _⟩ => ⟨S2048x256, .f32⟩
  | .hbm, ⟨77, _⟩ => ⟨S256x256, .i32⟩
  | .hbm, ⟨78, _⟩ => ⟨S256x256, .i32⟩
  | .hbm, ⟨79, _⟩ => ⟨S_, .i32⟩
  | .hbm, ⟨80, _⟩ => ⟨S256x256, .i32⟩
  | .hbm, ⟨81, _⟩ => ⟨S256x256, .i32⟩
  | .hbm, ⟨82, _⟩ => ⟨S_, .i32⟩
  | .hbm, ⟨83, _⟩ => ⟨S256x256, .i32⟩
  | .hbm, ⟨84, _⟩ => ⟨S256x256, .i1⟩
  | .hbm, ⟨85, _⟩ => ⟨S_, .i32⟩
  | .hbm, ⟨86, _⟩ => ⟨S256x256, .i32⟩
  | .hbm, ⟨87, _⟩ => ⟨S256x256, .i32⟩
  | .hbm, ⟨88, _⟩ => ⟨S_, .i32⟩
  | .hbm, ⟨89, _⟩ => ⟨S256x256, .i32⟩
  | .hbm, ⟨90, _⟩ => ⟨S256x256, .i32⟩
  | .hbm, ⟨91, _⟩ => ⟨S256x256, .i32⟩
  | .hbm, ⟨92, _⟩ => ⟨S256x256, .i1⟩
  | .hbm, ⟨93, _⟩ => ⟨S_, .f32⟩
  | .hbm, ⟨94, _⟩ => ⟨S_, .f32⟩
  | .hbm, ⟨95, _⟩ => ⟨S256x256, .f32⟩
  | .hbm, ⟨96, _⟩ => ⟨S256x256, .f32⟩
  | .hbm, ⟨97, _⟩ => ⟨S256x256, .f32⟩
  | .hbm, ⟨98, _⟩ => ⟨S_, .f32⟩
  | .hbm, ⟨99, _⟩ => ⟨S256x256, .f32⟩
  | .hbm, ⟨100, _⟩ => ⟨S256x256, .f32⟩
  | .hbm, ⟨101, _⟩ => ⟨S256x256, .bf16⟩
  | .hbm, ⟨102, _⟩ => ⟨S4x128x1, .f32⟩
  | .hbm, ⟨103, _⟩ => ⟨S4x128x128, .f32⟩
  | .hbm, ⟨104, _⟩ => ⟨S4x128x128, .f32⟩
  | .hbm, ⟨105, _⟩ => ⟨S4x128x128, .f32⟩
  | .hbm, ⟨106, _⟩ => ⟨S4x128x1, .f32⟩
  | .hbm, ⟨107, _⟩ => ⟨S4x128x128, .f32⟩
  | .hbm, ⟨108, _⟩ => ⟨S4x128x128, .f32⟩
  | .hbm, ⟨109, _⟩ => ⟨S4x128x128, .f32⟩
  | .hbm, ⟨110, _⟩ => ⟨S16x2048x512, .bf16⟩
  | .local _ .vmem, ⟨0, _⟩ => ⟨S16x128x256, .bf16⟩
  | .local _ .vmem, ⟨1, _⟩ => ⟨S16x128x256, .bf16⟩
  | .local _ .vmem, ⟨2, _⟩ => ⟨S16x128x256, .bf16⟩
  | .local _ .vmem, ⟨3, _⟩ => ⟨S16x128x256, .bf16⟩
  | .local _ .vmem, ⟨4, _⟩ => ⟨S16x128x512, .bf16⟩
  | .local _ .vmem, ⟨5, _⟩ => ⟨S16x128x512, .bf16⟩
  | .local _ .vmem, ⟨6, _⟩ => ⟨S16x128x512, .bf16⟩
  | .local _ .vmem, ⟨7, _⟩ => ⟨S16x128x512, .bf16⟩
  | .local _ .vmem, ⟨8, _⟩ => ⟨S256x256, .bf16⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S4x128x128, .f32⟩
  | .local _ .vmem, ⟨14, _⟩ => ⟨S4x128x128, .f32⟩
  | .local _ .vmem, ⟨15, _⟩ => ⟨S4x128x128, .f32⟩
  | .local _ .vmem, ⟨16, _⟩ => ⟨S16x128x512, .bf16⟩
  | .local _ .vmem, ⟨17, _⟩ => ⟨S16x128x512, .bf16⟩
  | .local _ .vmem, ⟨18, _⟩ => ⟨S16x4x128x128, .f32⟩
  | _, _ => ⟨S16x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_c : Ref sig .tc := ⟨.hbm, 79, rfl⟩
abbrev main_v64 : Ref sig .tc := ⟨.hbm, 80, rfl⟩
abbrev main_v65 : Ref sig .tc := ⟨.hbm, 81, rfl⟩
abbrev main_c_10 : Ref sig .tc := ⟨.hbm, 82, rfl⟩
abbrev main_v66 : Ref sig .tc := ⟨.hbm, 83, rfl⟩
abbrev main_v67 : Ref sig .tc := ⟨.hbm, 84, rfl⟩
abbrev main_c_11 : Ref sig .tc := ⟨.hbm, 85, rfl⟩
abbrev main_v68 : Ref sig .tc := ⟨.hbm, 86, rfl⟩
abbrev main_v69 : Ref sig .tc := ⟨.hbm, 87, rfl⟩
abbrev main_c_12 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_13 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v74 : Ref sig .tc := ⟨.hbm, 97, rfl⟩
abbrev main_cst_15 : Ref sig .tc := ⟨.hbm, 98, rfl⟩
abbrev main_call3_v0 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S16x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "g0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "g1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "g2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "g3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | _ => none
-- ==== ReferenceIdeal.lean ====
abbrev S16x2048x3584 : Shape := ⟨3, ![16, 2048, 3584]⟩
abbrev S16x2048x1536 : Shape := ⟨3, ![16, 2048, 1536]⟩
abbrev S16x2048x256 : Shape := ⟨3, ![16, 2048, 256]⟩
abbrev S16x2048x512 : Shape := ⟨3, ![16, 2048, 512]⟩
abbrev S16x2048x4x64 : Shape := ⟨4, ![16, 2048, 4, 64]⟩
abbrev S16x2048x4x128 : Shape := ⟨4, ![16, 2048, 4, 128]⟩
abbrev S4 : Shape := ⟨1, ![4]⟩
abbrev S_ : Shape := ⟨0, ![]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S16x2048x4x32 : Shape := ⟨4, ![16, 2048, 4, 32]⟩
abbrev S16x16x128x4x64 : Shape := ⟨5, ![16, 16, 128, 4, 64]⟩
abbrev S16x4x16x128x64 : Shape := ⟨5, ![16, 4, 16, 128, 64]⟩
abbrev S16x16x128x4x128 : Shape := ⟨5, ![16, 16, 128, 4, 128]⟩
abbrev S16x4x16x128x128 : Shape := ⟨5, ![16, 4, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x1x128x128 : Shape := ⟨5, ![1, 4, 1, 128, 128]⟩
abbrev S4x1 : Shape := ⟨2, ![4, 1]⟩
abbrev S4x128 : Shape := ⟨2, ![4, 128]⟩
abbrev S1x4x1x128x1 : Shape := ⟨5, ![1, 4, 1, 128, 1]⟩
abbrev S16x16x4x64x128 : Shape := ⟨5, ![16, 16, 4, 64, 128]⟩
abbrev S1x4x1x1 : Shape := ⟨4, ![1, 4, 1, 1]⟩
abbrev S16x4x64x128 : Shape := ⟨4, ![16, 4, 64, 128]⟩
abbrev S1x16x4x64x128 : Shape := ⟨5, ![1, 16, 4, 64, 128]⟩
abbrev S16x2048x4 : Shape := ⟨3, ![16, 2048, 4]⟩
abbrev S16x2048x4x1 : Shape := ⟨4, ![16, 2048, 4, 1]⟩

abbrev nBuf : Space → Nat
  | .hbm => 278
  | .vmem => 0
  | .smem => 0
  | _ => 0

abbrev hbmTy0_0 (i : Nat) : BufTy := match i % 128 with
  | 0 => ⟨S16x2048x3584, .bf16⟩
  | 1 => ⟨S16x2048x3584, .f32⟩
  | 2 => ⟨S16x2048x1536, .f32⟩
  | 3 => ⟨S16x2048x256, .f32⟩
  | 4 => ⟨S16x2048x256, .f32⟩
  | 5 => ⟨S16x2048x512, .f32⟩
  | 6 => ⟨S16x2048x512, .f32⟩
  | 7 => ⟨S16x2048x4x64, .f32⟩
  | 8 => ⟨S16x2048x4x64, .f32⟩
  | 9 => ⟨S16x2048x4x128, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S4, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S2048, .f32⟩
  | 30 => ⟨S2048x1, .f32⟩
  | 31 => ⟨S1x32, .f32⟩
  | 32 => ⟨S2048x32, .f32⟩
  | 33 => ⟨S2048x32, .f32⟩
  | 34 => ⟨S2048x32, .f32⟩
  | 35 => ⟨S2048x32, .f32⟩
  | 36 => ⟨S1x2048x1x32, .f32⟩
  | 37 => ⟨S2048x32, .f32⟩
  | 38 => ⟨S1x2048x1x32, .f32⟩
  | 39 => ⟨S16x2048x4x32, .f32⟩
  | 40 => ⟨S16x2048x4x32, .f32⟩
  | 41 => ⟨S16x2048x4x32, .f32⟩
  | 42 => ⟨S16x2048x4x32, .f32⟩
  | 43 => ⟨S16x2048x4x32, .f32⟩
  | 44 => ⟨S16x2048x4x32, .f32⟩
  | 45 => ⟨S16x2048x4x32, .f32⟩
  | 46 => ⟨S16x2048x4x32, .f32⟩
  | 47 => ⟨S16x2048x4x32, .f32⟩
  | 48 => ⟨S16x2048x4x32, .f32⟩
  | 49 => ⟨S16x2048x4x32, .f32⟩
  | 50 => ⟨S16x2048x4x32, .f32⟩
  | 51 => ⟨S16x2048x4x64, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S2048, .f32⟩
  | 61 => ⟨S2048x1, .f32⟩
  | 62 => ⟨S1x32, .f32⟩
  | 63 => ⟨S2048x32, .f32⟩
  | 64 => ⟨S2048x32, .f32⟩
  | 65 => ⟨S2048x32, .f32⟩
  | 66 => ⟨S2048x32, .f32⟩
  | 67 => ⟨S1x2048x1x32, .f32⟩
  | 68 => ⟨S2048x32, .f32⟩
  | 69 => ⟨S1x2048x1x32, .f32⟩
  | 70 => ⟨S16x2048x4x32, .f32⟩
  | 71 => ⟨S16x2048x4x32, .f32⟩
  | 72 => ⟨S16x2048x4x32, .f32⟩
  | 73 => ⟨S16x2048x4x32, .f32⟩
  | 74 => ⟨S16x2048x4x32, .f32⟩
  | 75 => ⟨S16x2048x4x32, .f32⟩
  | 76 => ⟨S16x2048x4x32, .f32⟩
  | 77 => ⟨S16x2048x4x32, .f32⟩
  | 78 => ⟨S16x2048x4x32, .f32⟩
  | 79 => ⟨S16x2048x4x32, .f32⟩
  | 80 => ⟨S16x2048x4x32, .f32⟩
  | 81 => ⟨S16x2048x4x32, .f32⟩
  | 82 => ⟨S16x2048x4x64, .f32⟩
  | 83 => ⟨S_, .f32⟩
  | 84 => ⟨S16x2048x4x64, .f32⟩
  | 85 => ⟨S16x2048x4x64, .f32⟩
  | 86 => ⟨S16x16x128x4x64, .f32⟩
  | 87 => ⟨S16x4x16x128x64, .f32⟩
  | 88 => ⟨S16x16x128x4x64, .f32⟩
  | 89 => ⟨S16x4x16x128x64, .f32⟩
  | 90 => ⟨S16x16x128x4x128, .f32⟩
  | 91 => ⟨S16x4x16x128x128, .f32⟩
  | 92 => ⟨S128, .f32⟩
  | 93 => ⟨S128x1, .f32⟩
  | 94 => ⟨S1x128, .f32⟩
  | 95 => ⟨S128x128, .f32⟩
  | 96 => ⟨S128x128, .f32⟩
  | 97 => ⟨S128x128, .f32⟩
  | 98 => ⟨S_, .f32⟩
  | 99 => ⟨S128x128, .f32⟩
  | 100 => ⟨S128x128, .i1⟩
  | 101 => ⟨S4x1x1, .f32⟩
  | 102 => ⟨S_, .f32⟩
  | 103 => ⟨S128x128, .f32⟩
  | 104 => ⟨S128x128, .f32⟩
  | 105 => ⟨S1x128x128, .f32⟩
  | 106 => ⟨S4x128x128, .f32⟩
  | 107 => ⟨S4x128x128, .f32⟩
  | 108 => ⟨S4x128x128, .f32⟩
  | 109 => ⟨S4x128x128, .f32⟩
  | 110 => ⟨S_, .f32⟩
  | 111 => ⟨S_, .f32⟩
  | 112 => ⟨S4x128x128, .i1⟩
  | 113 => ⟨S4x128x128, .f32⟩
  | 114 => ⟨S4x128x128, .f32⟩
  | 115 => ⟨S16x4x16x128x128, .f32⟩
  | 116 => ⟨S1x4x1x128x128, .f32⟩
  | 117 => ⟨S16x4x16x128x128, .f32⟩
  | 118 => ⟨S16x4x16x128x128, .f32⟩
  | 119 => ⟨S16x4x16x128x128, .f32⟩
  | 120 => ⟨S4x1, .f32⟩
  | 121 => ⟨S_, .f32⟩
  | 122 => ⟨S128, .f32⟩
  | 123 => ⟨S128, .f32⟩
  | 124 => ⟨S1x128, .f32⟩
  | 125 => ⟨S4x128, .f32⟩
  | 126 => ⟨S4x128, .f32⟩
  | 127 => ⟨S4x128, .f32⟩
  | _ => ⟨S16x2048x3584, .bf16⟩

abbrev hbmTy0_1 (i : Nat) : BufTy := match i % 128 with
  | 0 => ⟨S4x128, .f32⟩
  | 1 => ⟨S4x1, .f32⟩
  | 2 => ⟨S_, .f32⟩
  | 3 => ⟨S128, .f32⟩
  | 4 => ⟨S128, .f32⟩
  | 5 => ⟨S1x128, .f32⟩
  | 6 => ⟨S4x128, .f32⟩
  | 7 => ⟨S4x128, .f32⟩
  | 8 => ⟨S4x128, .f32⟩
  | 9 => ⟨S4x128, .f32⟩
  | 10 => ⟨S1x4x1x128x1, .f32⟩
  | 11 => ⟨S16x4x16x128x64, .f32⟩
  | 12 => ⟨S16x4x16x128x64, .f32⟩
  | 13 => ⟨S16x16x4x64x128, .f32⟩
  | 14 => ⟨S_, .f32⟩
  | 15 => ⟨S4, .f32⟩
  | 16 => ⟨S4, .f32⟩
  | 17 => ⟨S4, .f32⟩
  | 18 => ⟨S1x4x1x1, .f32⟩
  | 19 => ⟨S_, .f32⟩
  | 20 => ⟨S16x4x64x128, .f32⟩
  | 21 => ⟨S16x4x64x128, .f32⟩
  | 22 => ⟨S16x4x64x128, .f32⟩
  | 23 => ⟨S1x16x4x64x128, .f32⟩
  | 24 => ⟨S16x4x64x128, .f32⟩
  | 25 => ⟨S16x4x64x128, .f32⟩
  | 26 => ⟨S16x4x64x128, .f32⟩
  | 27 => ⟨S16x4x64x128, .f32⟩
  | 28 => ⟨S1x16x4x64x128, .f32⟩
  | 29 => ⟨S16x4x64x128, .f32⟩
  | 30 => ⟨S16x4x64x128, .f32⟩
  | 31 => ⟨S16x4x64x128, .f32⟩
  | 32 => ⟨S16x4x64x128, .f32⟩
  | 33 => ⟨S1x16x4x64x128, .f32⟩
  | 34 => ⟨S16x4x64x128, .f32⟩
  | 35 => ⟨S16x4x64x128, .f32⟩
  | 36 => ⟨S16x4x64x128, .f32⟩
  | 37 => ⟨S16x4x64x128, .f32⟩
  | 38 => ⟨S1x16x4x64x128, .f32⟩
  | 39 => ⟨S16x4x64x128, .f32⟩
  | 40 => ⟨S16x4x64x128, .f32⟩
  | 41 => ⟨S16x4x64x128, .f32⟩
  | 42 => ⟨S16x4x64x128, .f32⟩
  | 43 => ⟨S1x16x4x64x128, .f32⟩
  | 44 => ⟨S16x4x64x128, .f32⟩
  | 45 => ⟨S16x4x64x128, .f32⟩
  | 46 => ⟨S16x4x64x128, .f32⟩
  | 47 => ⟨S16x4x64x128, .f32⟩
  | 48 => ⟨S1x16x4x64x128, .f32⟩
  | 49 => ⟨S16x4x64x128, .f32⟩
  | 50 => ⟨S16x4x64x128, .f32⟩
  | 51 => ⟨S16x4x64x128, .f32⟩
  | 52 => ⟨S16x4x64x128, .f32⟩
  | 53 => ⟨S1x16x4x64x128, .f32⟩
  | 54 => ⟨S16x4x64x128, .f32⟩
  | 55 => ⟨S16x4x64x128, .f32⟩
  | 56 => ⟨S16x4x64x128, .f32⟩
  | 57 => ⟨S16x4x64x128, .f32⟩
  | 58 => ⟨S1x16x4x64x128, .f32⟩
  | 59 => ⟨S16x4x64x128, .f32⟩
  | 60 => ⟨S16x4x64x128, .f32⟩
  | 61 => ⟨S16x4x64x128, .f32⟩
  | 62 => ⟨S16x4x64x128, .f32⟩
  | 63 => ⟨S1x16x4x64x128, .f32⟩
  | 64 => ⟨S16x4x64x128, .f32⟩
  | 65 => ⟨S16x4x64x128, .f32⟩
  | 66 => ⟨S16x4x64x128, .f32⟩
  | 67 => ⟨S16x4x64x128, .f32⟩
  | 68 => ⟨S1x16x4x64x128, .f32⟩
  | 69 => ⟨S16x4x64x128, .f32⟩
  | 70 => ⟨S16x4x64x128, .f32⟩
  | 71 => ⟨S16x4x64x128, .f32⟩
  | 72 => ⟨S16x4x64x128, .f32⟩
  | 73 => ⟨S1x16x4x64x128, .f32⟩
  | 74 => ⟨S16x4x64x128, .f32⟩
  | 75 => ⟨S16x4x64x128, .f32⟩
  | 76 => ⟨S16x4x64x128, .f32⟩
  | 77 => ⟨S16x4x64x128, .f32⟩
  | 78 => ⟨S1x16x4x64x128, .f32⟩
  | 79 => ⟨S16x4x64x128, .f32⟩
  | 80 => ⟨S16x4x64x128, .f32⟩
  | 81 => ⟨S16x4x64x128, .f32⟩
  | 82 => ⟨S16x4x64x128, .f32⟩
  | 83 => ⟨S1x16x4x64x128, .f32⟩
  | 84 => ⟨S16x4x64x128, .f32⟩
  | 85 => ⟨S16x4x64x128, .f32⟩
  | 86 => ⟨S16x4x64x128, .f32⟩
  | 87 => ⟨S16x4x64x128, .f32⟩
  | 88 => ⟨S1x16x4x64x128, .f32⟩
  | 89 => ⟨S16x4x64x128, .f32⟩
  | 90 => ⟨S16x4x64x128, .f32⟩
  | 91 => ⟨S16x4x64x128, .f32⟩
  | 92 => ⟨S16x4x64x128, .f32⟩
  | 93 => ⟨S1x16x4x64x128, .f32⟩
  | 94 => ⟨S16x4x64x128, .f32⟩
  | 95 => ⟨S16x4x64x128, .f32⟩
  | 96 => ⟨S16x4x64x128, .f32⟩
  | 97 => ⟨S16x4x64x128, .f32⟩
  | 98 => ⟨S1x16x4x64x128, .f32⟩
  | 99 => ⟨S16x4x64x128, .f32⟩
  | 100 => ⟨S16x4x64x128, .f32⟩
  | 101 => ⟨S1x4x1x128x1, .f32⟩
  | 102 => ⟨S16x4x16x128x64, .f32⟩
  | 103 => ⟨S16x4x16x128x64, .f32⟩
  | 104 => ⟨S1x16x4x64x128, .f32⟩
  | 105 => ⟨S1x16x4x64x128, .f32⟩
  | 106 => ⟨S1x16x4x64x128, .f32⟩
  | 107 => ⟨S1x16x4x64x128, .f32⟩
  | 108 => ⟨S1x16x4x64x128, .f32⟩
  | 109 => ⟨S1x16x4x64x128, .f32⟩
  | 110 => ⟨S1x16x4x64x128, .f32⟩
  | 111 => ⟨S1x16x4x64x128, .f32⟩
  | 112 => ⟨S1x16x4x64x128, .f32⟩
  | 113 => ⟨S1x16x4x64x128, .f32⟩
  | 114 => ⟨S1x16x4x64x128, .f32⟩
  | 115 => ⟨S1x16x4x64x128, .f32⟩
  | 116 => ⟨S1x16x4x64x128, .f32⟩
  | 117 => ⟨S1x16x4x64x128, .f32⟩
  | 118 => ⟨S1x16x4x64x128, .f32⟩
  | 119 => ⟨S1x16x4x64x128, .f32⟩
  | 120 => ⟨S16x16x4x64x128, .f32⟩
  | 121 => ⟨S16x4x16x128x128, .f32⟩
  | 122 => ⟨S16x4x16x128x128, .f32⟩
  | 123 => ⟨S16x16x128x4x128, .f32⟩
  | 124 => ⟨S16x2048x4x128, .f32⟩
  | 125 => ⟨S16x2048x4x128, .f32⟩
  | 126 => ⟨S_, .f32⟩
  | 127 => ⟨S16x2048x4, .f32⟩
  | _ => ⟨S16x2048x3584, .bf16⟩

abbrev hbmTy0_2 (i : Nat) : BufTy := match i % 128 with
  | 0 => ⟨S16x2048x4x1, .f32⟩
  | 1 => ⟨S_, .f32⟩
  | 2 => ⟨S16x2048x4x1, .f32⟩
  | 3 => ⟨S16x2048x4x1, .f32⟩
  | 4 => ⟨S_, .f32⟩
  | 5 => ⟨S16x2048x4x1, .f32⟩
  | 6 => ⟨S16x2048x4x1, .f32⟩
  | 7 => ⟨S16x2048x4x1, .f32⟩
  | 8 => ⟨S16x2048x4x128, .f32⟩
  | 9 => ⟨S16x2048x4x128, .f32⟩
  | 10 => ⟨S16x2048x512, .f32⟩
  | 11 => ⟨S16x2048x512, .f32⟩
  | 12 => ⟨S16x2048x512, .f32⟩
  | 13 => ⟨S_, .f32⟩
  | 14 => ⟨S16x2048x512, .f32⟩
  | 15 => ⟨S16x2048x512, .f32⟩
  | 16 => ⟨S_, .f32⟩
  | 17 => ⟨S16x2048x512, .f32⟩
  | 18 => ⟨S16x2048x512, .f32⟩
  | 19 => ⟨S16x2048x512, .f32⟩
  | 20 => ⟨S16x2048x512, .f32⟩
  | 21 => ⟨S16x2048x512, .bf16⟩
  | _ => ⟨S16x2048x3584, .bf16⟩

abbrev hbmTy (i : Nat) : BufTy := match i / 128 with
  | 0 => hbmTy0_0 i
  | 1 => hbmTy0_1 i
  | 2 => hbmTy0_2 i
  | _ => ⟨S16x2048x3584, .bf16⟩

abbrev bufTy : (tb : Table) → Fin (tcTables nBuf tb) → BufTy
  | .hbm, ⟨i, _⟩ => hbmTy i
  | _, _ => ⟨S16x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_cst_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst_4 : Ref sig .tc := ⟨.hbm, 54, rfl⟩
abbrev main_v48 : Ref sig .tc := ⟨.hbm, 55, rfl⟩
abbrev main_v49 : Ref sig .tc := ⟨.hbm, 56, rfl⟩
abbrev main_cst_5 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_cst_6 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_cst_7 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_cst_8 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_cst_9 : Ref sig .tc := ⟨.hbm, 110, rfl⟩
abbrev main_call0_v0 : Ref sig .tc := ⟨.hbm, 111, rfl⟩
abbrev main_call0_v1 : Ref sig .tc := ⟨.hbm, 112, rfl⟩
abbrev main_call0_v2 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_cst_10 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_cst_11 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_cst_12 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_cst_13 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_cst_14 : Ref sig .tc := ⟨.hbm, 254, rfl⟩
abbrev main_v235 : Ref sig .tc := ⟨.hbm, 255, rfl⟩
abbrev main_v236 : Ref sig .tc := ⟨.hbm, 256, rfl⟩
abbrev main_cst_15 : Ref sig .tc := ⟨.hbm, 257, rfl⟩
abbrev main_v237 : Ref sig .tc := ⟨.hbm, 258, rfl⟩
abbrev main_v238 : Ref sig .tc := ⟨.hbm, 259, rfl⟩
abbrev main_cst_16 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_call1_v0 : Ref sig .tc := ⟨.hbm, 267, rfl⟩
abbrev main_call1_v1 : Ref sig .tc := ⟨.hbm, 268, rfl⟩
abbrev main_call1_cst : Ref sig .tc := ⟨.hbm, 269, rfl⟩
abbrev main_call1_v2 : Ref sig .tc := ⟨.hbm, 270, rfl⟩
abbrev main_call1_v3 : Ref sig .tc := ⟨.hbm, 271, rfl⟩
abbrev main_call1_cst_0 : Ref sig .tc := ⟨.hbm, 272, rfl⟩
abbrev main_call1_v4 : Ref sig .tc := ⟨.hbm, 273, rfl⟩
abbrev main_call1_v5 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩

abbrev nD : Nat := 1
abbrev τ : Topo := Topo.v7x

variable {F : FTy → Type} [FloatOps F]
-- ==== Mid.lean ====
abbrev S32768x512 : Shape := ⟨2, ![32768, 512]⟩
abbrev S1024x1024 : Shape := ⟨2, ![1024, 1024]⟩
abbrev S1024 : Shape := ⟨1, ![1024]⟩
abbrev S32768x1024 : Shape := ⟨2, ![32768, 1024]⟩
abbrev S1024x3072 : Shape := ⟨2, ![1024, 3072]⟩
abbrev S1x1024 : Shape := ⟨2, ![1, 1024]⟩
abbrev S32768x3072 : Shape := ⟨2, ![32768, 3072]⟩
abbrev S1024x512 : Shape := ⟨2, ![1024, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S1024, .f32⟩
  | .hbm, ⟨4, _⟩ => ⟨S32768x1024, .f32⟩
  | .hbm, ⟨5, _⟩ => ⟨S1024, .f32⟩
  | .hbm, ⟨6, _⟩ => ⟨S1024x3072, .f32⟩
  | .hbm, ⟨7, _⟩ => ⟨S1024x1024, .bf16⟩
  | .hbm, ⟨8, _⟩ => ⟨S1024x3072, .bf16⟩
  | .hbm, ⟨9, _⟩ => ⟨S1x1024, .f32⟩
  | .hbm, ⟨10, _⟩ => ⟨S1x1024, .f32⟩
  | .hbm, ⟨11, _⟩ => ⟨S32768x1024, .f32⟩
  | .hbm, ⟨12, _⟩ => ⟨S32768x3072, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x3072, .bf16⟩
  | .local _ .vmem, ⟨10, _⟩ => ⟨S1024x1024, .f32⟩
  | .local _ .vmem, ⟨11, _⟩ => ⟨S1024x1024, .f32⟩
  | .local _ .vmem, ⟨12, _⟩ => ⟨S1024x3072, .bf16⟩
  | .local _ .vmem, ⟨13, _⟩ => ⟨S1024x3072, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MidIdeal.lean ====
abbrev S32768x512 : Shape := ⟨2, ![32768, 512]⟩
abbrev S1024x1024 : Shape := ⟨2, ![1024, 1024]⟩
abbrev S1024 : Shape := ⟨1, ![1024]⟩
abbrev S32768x1024 : Shape := ⟨2, ![32768, 1024]⟩
abbrev S1024x3072 : Shape := ⟨2, ![1024, 3072]⟩
abbrev S1x1024 : Shape := ⟨2, ![1, 1024]⟩
abbrev S32768x3072 : Shape := ⟨2, ![32768, 3072]⟩
abbrev S1024x512 : Shape := ⟨2, ![1024, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S1024, .f32⟩
  | .hbm, ⟨4, _⟩ => ⟨S32768x1024, .f32⟩
  | .hbm, ⟨5, _⟩ => ⟨S1024, .f32⟩
  | .hbm, ⟨6, _⟩ => ⟨S1024x3072, .f32⟩
  | .hbm, ⟨7, _⟩ => ⟨S1024x1024, .bf16⟩
  | .hbm, ⟨8, _⟩ => ⟨S1024x3072, .bf16⟩
  | .hbm, ⟨9, _⟩ => ⟨S1x1024, .f32⟩
  | .hbm, ⟨10, _⟩ => ⟨S1x1024, .f32⟩
  | .hbm, ⟨11, _⟩ => ⟨S32768x1024, .f32⟩
  | .hbm, ⟨12, _⟩ => ⟨S32768x3072, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x3072, .bf16⟩
  | .local _ .vmem, ⟨10, _⟩ => ⟨S1024x1024, .f32⟩
  | .local _ .vmem, ⟨11, _⟩ => ⟨S1024x1024, .f32⟩
  | .local _ .vmem, ⟨12, _⟩ => ⟨S1024x3072, .bf16⟩
  | .local _ .vmem, ⟨13, _⟩ => ⟨S1024x3072, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MidRefIdeal.lean ====
abbrev S32768x512 : Shape := ⟨2, ![32768, 512]⟩
abbrev S1024x1024 : Shape := ⟨2, ![1024, 1024]⟩
abbrev S1024 : Shape := ⟨1, ![1024]⟩
abbrev S32768x1024 : Shape := ⟨2, ![32768, 1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩

abbrev nBuf : Space → Nat
  | .hbm => 45
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S1024, .f32⟩
  | .hbm, ⟨4, _⟩ => ⟨S32768x1024, .f32⟩
  | .hbm, ⟨5, _⟩ => ⟨S1024, .f32⟩
  | .hbm, ⟨6, _⟩ => ⟨S1024x3072, .f32⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S32768x3072, .f32⟩
  | .hbm, ⟨44, _⟩ => ⟨S32768x3072, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== First.lean ====
abbrev S32768x1024 : Shape := ⟨2, ![32768, 1024]⟩
abbrev S1024 : Shape := ⟨1, ![1024]⟩
abbrev S1024x3584 : Shape := ⟨2, ![1024, 3584]⟩
abbrev S1x1024 : Shape := ⟨2, ![1, 1024]⟩
abbrev S32768x3584 : Shape := ⟨2, ![32768, 3584]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3584, .f32⟩
  | .hbm, ⟨3, _⟩ => ⟨S1024x3584, .bf16⟩
  | .hbm, ⟨4, _⟩ => ⟨S1x1024, .f32⟩
  | .hbm, ⟨5, _⟩ => ⟨S32768x3584, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .bf16⟩
  | .local _ .vmem, ⟨4, _⟩ => ⟨S1024x3584, .bf16⟩
  | .local _ .vmem, ⟨5, _⟩ => ⟨S1024x3584, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FirstRefIdeal.lean ====
abbrev S32768x1024 : Shape := ⟨2, ![32768, 1024]⟩
abbrev S1024 : Shape := ⟨1, ![1024]⟩
abbrev S1024x3584 : Shape := ⟨2, ![1024, 3584]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3584 : Shape := ⟨2, ![32768, 3584]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3584, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3584, .f32⟩
  | .hbm, ⟨20, _⟩ => ⟨S32768x3584, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Last.lean ====
abbrev S32768x512 : Shape := ⟨2, ![32768, 512]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S1024, .f32⟩
  | .hbm, ⟨4, _⟩ => ⟨S32768x1024, .f32⟩
  | .hbm, ⟨5, _⟩ => ⟨S1024x1024, .bf16⟩
  | .hbm, ⟨6, _⟩ => ⟨S1x1024, .f32⟩
  | .hbm, ⟨7, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastRefIdeal.lean ====
abbrev S32768x512 : Shape := ⟨2, ![32768, 512]⟩
abbrev S1024x1024 : Shape := ⟨2, ![1024, 1024]⟩
abbrev S1024 : Shape := ⟨1, ![1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S1024, .f32⟩
  | .hbm, ⟨4, _⟩ => ⟨S32768x1024, .f32⟩
  | .hbm, ⟨5, _⟩ => ⟨S32768x1024, .bf16⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Wide.lean ====
abbrev S32768x512 : Shape := ⟨2, ![32768, 512]⟩
abbrev S1024x1024 : Shape := ⟨2, ![1024, 1024]⟩
abbrev S1024 : Shape := ⟨1, ![1024]⟩
abbrev S32768x1024 : Shape := ⟨2, ![32768, 1024]⟩
abbrev S1024x3584 : Shape := ⟨2, ![1024, 3584]⟩
abbrev S1x1024 : Shape := ⟨2, ![1, 1024]⟩
abbrev S32768x3584 : Shape := ⟨2, ![32768, 3584]⟩
abbrev S1024x512 : Shape := ⟨2, ![1024, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S1024, .f32⟩
  | .hbm, ⟨4, _⟩ => ⟨S32768x1024, .f32⟩
  | .hbm, ⟨5, _⟩ => ⟨S1024, .f32⟩
  | .hbm, ⟨6, _⟩ => ⟨S1024x3584, .f32⟩
  | .hbm, ⟨7, _⟩ => ⟨S1024x1024, .bf16⟩
  | .hbm, ⟨8, _⟩ => ⟨S1024x3584, .bf16⟩
  | .hbm, ⟨9, _⟩ => ⟨S1x1024, .f32⟩
  | .hbm, ⟨10, _⟩ => ⟨S1x1024, .f32⟩
  | .hbm, ⟨11, _⟩ => ⟨S32768x1024, .f32⟩
  | .hbm, ⟨12, _⟩ => ⟨S32768x3584, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x3584, .bf16⟩
  | .local _ .vmem, ⟨10, _⟩ => ⟨S1024x1024, .f32⟩
  | .local _ .vmem, ⟨11, _⟩ => ⟨S1024x1024, .f32⟩
  | .local _ .vmem, ⟨12, _⟩ => ⟨S1024x3584, .bf16⟩
  | .local _ .vmem, ⟨13, _⟩ => ⟨S1024x3584, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== WideRefIdeal.lean ====
abbrev S32768x512 : Shape := ⟨2, ![32768, 512]⟩
abbrev S1024x1024 : Shape := ⟨2, ![1024, 1024]⟩
abbrev S1024 : Shape := ⟨1, ![1024]⟩
abbrev S32768x1024 : Shape := ⟨2, ![32768, 1024]⟩
abbrev S1024x3584 : Shape := ⟨2, ![1024, 3584]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3584 : Shape := ⟨2, ![32768, 3584]⟩

abbrev nBuf : Space → Nat
  | .hbm => 45
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S1024, .f32⟩
  | .hbm, ⟨4, _⟩ => ⟨S32768x1024, .f32⟩
  | .hbm, ⟨5, _⟩ => ⟨S1024, .f32⟩
  | .hbm, ⟨6, _⟩ => ⟨S1024x3584, .f32⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S32768x3584, .f32⟩
  | .hbm, ⟨44, _⟩ => ⟨S32768x3584, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Rows.lean ====
/-
  One row of the layer's normalization and one entry of a product, over the extended reals: the vocabulary in which
  the kernels and their references meet.
-/
module

public import Idealize.ShloMosaic.Lib.Pointwise

@[expose] public section

noncomputable section

open Idealize.ShloMosaic

namespace Cert.Rows

/-- Entry `k` of the row `x` divided by the root of its mean square, times the weight `w`. -/
def rmsNorm (x w : Fin 1024 → EReal) (k : Fin 1024) : EReal :=
  x k * Ideal.rsqrt (Ideal.div (∑ j, x j * x j) (Ideal.ofBits .f32 0x44800000#32) + Ideal.ofBits .f32 0x358637BD#32) * w k

/-- Entry `j` of the product of a row given as two halves, `a` then `b`, by the weights `w`. -/
def mixed (a b : Fin 512 → EReal) (w : Fin 1024 → Fin 1024 → EReal) (j : Fin 1024) : EReal :=
  (∑ k : Fin 512, a k * w ⟨k.val, by omega⟩ j) + ∑ k : Fin 512, b k * w ⟨512 + k.val, by omega⟩ j

/-- Entry `j` of the row `x` with the normalized product of the two halves added. -/
def added (a b : Fin 512 → EReal) (w : Fin 1024 → Fin 1024 → EReal) (u x : Fin 1024 → EReal) (j : Fin 1024) : EReal :=
  x j + rmsNorm (mixed a b w) u j

end Cert.Rows
-- ==== Proof.First.lean ====
/-
  The first projection: every row of the activations, normalized, times the weights.

  The kernel walks 32 blocks of 1024 rows and stores each block of the product in seven chunks of 512 columns; the
  reference states the product of the whole arrays. Entry by entry both are the same sum over the 1024 features.
-/
module

public import proofs.«01_k».proof.Proof.Rows
public import proofs.«01_k».proof.Proof.Gen.FirstIdeal.Value
public import proofs.«01_k».proof.Proof.Gen.FirstRefIdeal.Read
public import Idealize.ShloMosaic.Lib.Pipeline.ValueKit.Geometry
public import Idealize.ShloMosaic.Lib.Tactic

@[expose] public section

set_option maxRecDepth 16384

noncomputable section

open Idealize.ShloMosaic Idealize.ShloMosaic.TcCoe Idealize.SL.Sem

namespace Cert.FirstIdeal.Sum

open Cert.FirstIdeal Cert.FirstIdeal.Gen Cert.Rows

/-- What a block of the result holds: the normalized rows times the weights. -/
def block (x0 : Vec Ideal S1024x1024 .f32) (x1 : Vec Ideal S1x1024 .f32) (x2 : Vec Ideal S1024x3584 .bf16) :
    Vec Ideal S1024x3584 .bf16 :=
  fun y => ∑ k : Fin 1024, rmsNorm (fun j => x0 (ix2 (y 0) j)) (fun j => x1 (ix2 0 j)) k * x2 (ix2 k (y 1))

theorem hz : (![0, 0] : Fin 2 → Nat) = fun _ => 0 := funext fun a => by fin_cases a <;> rfl

/-- The chunk of the product stored at column `o` is the block's part there. -/
theorem chunk_eq (x0 : Vec Ideal S1024x1024 .f32) (x1 : Vec Ideal S1x1024 .f32) (x2 : Vec Ideal S1024x3584 .bf16) (o : Nat)
    (inb : ∀ a, (![0, o] : Fin 2 → Nat) a + S1024x512.size a ≤ S1024x3584.size a) (x : S1024x512.Idx) :
    k0_pay1 (k0_pay5 (View.ld x0 r0_0) (View.ld x1 r0_1)) (View.ld x2 (Rect.unit (s := S1024x3584) ![0, o] S1024x512.size inb)) x
      = block x0 x1 x2 ((Rect.unit (s := S1024x3584) ![0, o] S1024x512.size inb).emb x) := by
  rw [View.ld_unit_zero hz, View.ld_unit_zero hz]
  have e : (Rect.unit (s := S1024x3584) ![0, o] S1024x512.size inb).emb x
      = ix2 (x 0) ⟨o + (x 1).val, lt_of_lt_of_le (Nat.add_lt_add_left (x 1).isLt o) (inb 1)⟩ := by
    funext a; apply Fin.ext
    rw [ValueKit.rect_emb_unit_val]
    match a with
    | ⟨0, _⟩ => exact Nat.zero_add _
    | ⟨1, _⟩ => rfl
  rw [e]
  pointwise [k0_pay1, k0_pay5, block, rmsNorm]

/-- So the body leaves the block in the result's buffer. -/
theorem out_eq (x0 : Vec Ideal S1024x1024 .f32) (x1 : Vec Ideal S1x1024 .f32) (x2 : Vec Ideal S1024x3584 .bf16) :
    out0_3 x0 x1 x2 = block x0 x1 x2 := by
  funext y
  refine View.canon_apply_of_pieces (block x0 x1 x2) _ (fun p hp => ?_) y (cover0_3 _ _ _ _ _ _ _ y)
  simp only [List.mem_cons, List.not_mem_nil, or_false] at hp
  rcases hp with rfl | rfl | rfl | rfl | rfl | rfl | rfl <;> exact chunk_eq x0 x1 x2 _ _

variable (m : (ℓ : Loc nD τ sig) → Buf (Elt Ideal) ℓ) (ρ : Dev nD → PrngReg)

theorem V_v0 (c : Dev nD) : (V m c main_v0 : Vec Ideal S1024x3584 .bf16) = m ((c : Thread nD τ).loc main_arg2) := by
  unfold V; after_results; rfl

theorem V_v1 (c : Dev nD) : (V m c main_v1 : Vec Ideal S1x1024 .f32)
    = shapeCast S1x1024 (m ((c : Thread nD τ).loc main_arg1)) shapeCasts_S1024_S1x1024 := by
  unfold V; after_results; rfl

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![t.val, 0] :=
  (by decide +kernel : ∀ t : Fin grid0.N, win0_3.index t = ![t.val, 0])

/-- The reference's entry: the normalized row times the weights' column. -/
theorem ref_apply (x0 : Vec Ideal FirstRefIdeal.S32768x1024 .f32) (x1 : Vec Ideal FirstRefIdeal.S1024 .f32)
    (x2 : Vec Ideal FirstRefIdeal.S1024x3584 .f32) (r : Fin 32768) (j : Fin 3584) :
    FirstRefIdeal.Read.val_main_v14 (F := Ideal) x0 x1 x2 (ix2 r j)
      = ∑ k : Fin 1024, rmsNorm (fun j => x0 (ix2 r j)) (fun j => x1 (ix1 j)) k * x2 (ix2 k j) := by
  pointwise [FirstRefIdeal.Read.val_main_v14, FirstRefIdeal.Read.val_main_v13, FirstRefIdeal.Read.val_main_v12,
    FirstRefIdeal.Read.val_main_v11, FirstRefIdeal.Read.val_main_v10, FirstRefIdeal.Read.val_main_v9,
    FirstRefIdeal.Read.val_main_v8, FirstRefIdeal.Read.val_main_v7, FirstRefIdeal.Read.val_main_v6,
    FirstRefIdeal.Read.val_main_v5, FirstRefIdeal.Read.val_main_v4, FirstRefIdeal.Read.val_main_v3,
    FirstRefIdeal.Read.val_main_v2, FirstRefIdeal.Read.val_main_v1, FirstRefIdeal.Read.val_main_v0,
    FirstRefIdeal.Read.val_main_cst, FirstRefIdeal.Read.val_main_cst_0, FirstRefIdeal.Read.val_main_cst_1, rmsNorm]

/-- Block `t` of the result, entry by entry, is the reference's. -/
theorem block_eq (c : Dev nD) (t : Fin cfg0.N) (p : Fin 1024) (q : Fin 3584) (h : t.val * 1024 + p.val < 32768) :
    block (iblk m c 0 t) (iblk m c 1 t) (iblk m c 2 t) (ix2 p q)
      = FirstRefIdeal.Read.val_main_v14 (F := Ideal) (m ((c : Thread nD τ).loc main_arg0))
          (m ((c : Thread nD τ).loc main_arg1)) (m ((c : Thread nD τ).loc main_arg2)) (ix2 ⟨t.val * 1024 + p.val, h⟩ q) := by
  have h0 : ∀ j : Fin 1024, (iblk m c 0 t : Vec Ideal S1024x1024 .f32) (ix2 p j)
      = (m ((c : Thread nD τ).loc main_arg0) : Vec Ideal S32768x1024 .f32) (ix2 ⟨t.val * 1024 + p.val, h⟩ j) := by
    intro j
    blk_simp [iblk]
    rw [V_main_arg0]
    congr 1
    blk_ext [index0]
  have h1 : ∀ j : Fin 1024, (iblk m c 1 t : Vec Ideal S1x1024 .f32) (ix2 0 j)
      = (m ((c : Thread nD τ).loc main_arg1) : Vec Ideal S1024 .f32) (ix1 j) := by
    intro j
    blk_simp [iblk]
    have e : (win0_1.blk t).view.emb (ix2 (0 : Fin 1) j) = (ix2 0 j : S1x1024.Idx) := by blk_ext [index1]
    rw [e, V_v1]
    pointwise
  have h2 : ∀ k : Fin 1024, (iblk m c 2 t : Vec Ideal S1024x3584 .bf16) (ix2 k q)
      = (m ((c : Thread nD τ).loc main_arg2) : Vec Ideal S1024x3584 .f32) (ix2 k q) := by
    intro k
    blk_simp [iblk]
    rw [V_v0]
    congr 1
    blk_ext [index2]
  rw [ref_apply]
  unfold block
  simp only [ix2_0, ix2_1, h0, h1, h2]

/-- The result array after the run is the reference's term of the arguments. -/
theorem final (c : Dev nD) : (dats m 0 c).arrAt 3 cfg0.N
    = FirstRefIdeal.Read.val_main_v14 (F := Ideal) (m ((c : Thread nD τ).loc main_arg0))
        (m ((c : Thread nD τ).loc main_arg1)) (m ((c : Thread nD τ).loc main_arg2)) := by
  refine (dats m 0 c).arrAt_eq_of_covers 3 _ (by decide +kernel) fun t hf y => ?_
  have ht : t.val < 32 := lt_of_lt_of_eq t.isLt N_0
  obtain ⟨p, q, rfl⟩ : ∃ (p : Fin 1024) (q : Fin 3584), y = ix2 p q := ⟨y 0, y 1, eq_ix2 y⟩
  have e : ((cfg0.win 3).blk t).view.emb (ix2 p q) = (ix2 ⟨t.val * 1024 + p.val, by omega⟩ q : S32768x3584.Idx) := by
    blk_ext [index3]
  rw [e]
  blk_simp
  rw [after0_3, out_eq]
  exact block_eq m c t p q _

end Cert.FirstIdeal.Sum
-- ==== Proof.Last.lean ====
/-
  The last projection: the two halves of the mixed row times the output weights, normalized, added to the activations.

  The kernel walks 32 blocks of 1024 rows and forms each product as the sum of the two halves' products; the reference
  lays the halves side by side and states one product over 1024 features. A sum over 1024 is the sum of its two halves.
-/
module

public import proofs.«01_k».proof.Proof.Rows
public import proofs.«01_k».proof.Proof.Gen.LastIdeal.Value
public import proofs.«01_k».proof.Proof.Gen.LastRefIdeal.Read
public import Idealize.ShloMosaic.Lib.Pipeline.ValueKit.Geometry
public import Idealize.ShloMosaic.Lib.Tactic

@[expose] public section

set_option maxRecDepth 16384

noncomputable section

open Idealize.ShloMosaic Idealize.ShloMosaic.TcCoe Idealize.SL.Sem

namespace Cert.LastIdeal.Sum

open Cert.LastIdeal Cert.LastIdeal.Gen Cert.Rows

/-- What a block of the result holds. -/
def block (x0 x1 : Vec Ideal S1024x512 .bf16) (x2 : Vec Ideal S1024x1024 .bf16) (x3 : Vec Ideal S1x1024 .f32)
    (x4 : Vec Ideal S1024x1024 .f32) : Vec Ideal S1024x1024 .f32 :=
  fun y => added (fun k => x0 (ix2 (y 0) k)) (fun k => x1 (ix2 (y 0) k)) (fun k j => x2 (ix2 k j)) (fun j => x3 (ix2 0 j))
    (fun j => x4 (ix2 (y 0) j)) (y 1)

theorem hz : (![0, 0] : Fin 2 → Nat) = fun _ => 0 := funext fun a => by fin_cases a <;> rfl

/-- The body leaves the block in the result's buffer. -/
theorem out_eq (x0 x1 : Vec Ideal S1024x512 .bf16) (x2 : Vec Ideal S1024x1024 .bf16) (x3 : Vec Ideal S1x1024 .f32)
    (x4 : Vec Ideal S1024x1024 .f32) : out0_5 x0 x1 x2 x3 x4 = block x0 x1 x2 x3 x4 := by
  unfold out0_5
  rw [View.canon_unit_zero hz, View.ld_unit_zero hz, View.ld_unit_zero hz, View.ld_unit_zero hz, View.ld_unit_zero hz]
  funext y
  obtain ⟨p, q, rfl⟩ : ∃ (p : Fin 1024) (q : Fin 1024), y = ix2 p q := ⟨y 0, y 1, eq_ix2 y⟩
  pointwise [k0_pay1, block, added, rmsNorm, mixed]

/-- The reference's entry. -/
theorem ref_apply (x0 x1 : Vec Ideal LastRefIdeal.S32768x512 .bf16) (x2 : Vec Ideal LastRefIdeal.S1024x1024 .f32)
    (x3 : Vec Ideal LastRefIdeal.S1024 .f32) (x4 : Vec Ideal LastRefIdeal.S32768x1024 .f32) (r : Fin 32768) (j : Fin 1024) :
    LastRefIdeal.Read.val_main_v16 (F := Ideal) x0 x1 x2 x3 x4 (ix2 r j)
      = added (fun k => x0 (ix2 r k)) (fun k => x1 (ix2 r k)) (fun k j => x2 (ix2 k j)) (fun j => x3 (ix1 j))
          (fun j => x4 (ix2 r j)) j := by
  have h2 : ∀ j : Fin 1024, LastRefIdeal.Read.val_main_v2 (F := Ideal) x0 x1 x2 (ix2 r j)
      = mixed (fun k => x0 (ix2 r k)) (fun k => x1 (ix2 r k)) (fun k j => x2 (ix2 k j)) j := by
    intro j
    pointwise [LastRefIdeal.Read.val_main_v2, LastRefIdeal.Read.val_main_v1, LastRefIdeal.Read.val_main_v0, mixed]
  pointwise [LastRefIdeal.Read.val_main_v16, LastRefIdeal.Read.val_main_v15, LastRefIdeal.Read.val_main_v14,
    LastRefIdeal.Read.val_main_v13, LastRefIdeal.Read.val_main_v12, LastRefIdeal.Read.val_main_v11,
    LastRefIdeal.Read.val_main_v10, LastRefIdeal.Read.val_main_v9, LastRefIdeal.Read.val_main_v8,
    LastRefIdeal.Read.val_main_v7, LastRefIdeal.Read.val_main_v6, LastRefIdeal.Read.val_main_v5,
    LastRefIdeal.Read.val_main_v4, LastRefIdeal.Read.val_main_v3, LastRefIdeal.Read.val_main_cst,
    LastRefIdeal.Read.val_main_cst_0, LastRefIdeal.Read.val_main_cst_1, added, rmsNorm, h2]

variable (m : (ℓ : Loc nD τ sig) → Buf (Elt Ideal) ℓ) (ρ : Dev nD → PrngReg)

theorem V_v0 (c : Dev nD) : (V m c main_v0 : Vec Ideal S1024x1024 .bf16) = m ((c : Thread nD τ).loc main_arg2) := by
  unfold V; after_results; rfl

theorem V_v1 (c : Dev nD) : (V m c main_v1 : Vec Ideal S1x1024 .f32)
    = shapeCast S1x1024 (m ((c : Thread nD τ).loc main_arg3)) shapeCasts_S1024_S1x1024 := by
  unfold V; after_results; rfl

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])

/-- Block `t` of the result, entry by entry, is the reference's. -/
theorem block_eq (c : Dev nD) (t : Fin cfg0.N) (p : Fin 1024) (q : Fin 1024) (h : t.val * 1024 + p.val < 32768) :
    block (iblk m c 0 t) (iblk m c 1 t) (iblk m c 2 t) (iblk m c 3 t) (iblk m c 4 t) (ix2 p q)
      = LastRefIdeal.Read.val_main_v16 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (ix2 ⟨t.val * 1024 + p.val, h⟩ q) := by
  have h0 : ∀ j : Fin 512, (iblk m c 0 t : Vec Ideal S1024x512 .bf16) (ix2 p j)
      = (m ((c : Thread nD τ).loc main_arg0) : Vec Ideal S32768x512 .bf16) (ix2 ⟨t.val * 1024 + p.val, h⟩ j) := by
    intro j
    blk_simp [iblk]
    rw [V_main_arg0]
    congr 1
    blk_ext [index0]
  have h1 : ∀ j : Fin 512, (iblk m c 1 t : Vec Ideal S1024x512 .bf16) (ix2 p j)
      = (m ((c : Thread nD τ).loc main_arg1) : Vec Ideal S32768x512 .bf16) (ix2 ⟨t.val * 1024 + p.val, h⟩ j) := by
    intro j
    blk_simp [iblk]
    rw [V_main_arg1]
    congr 1
    blk_ext [index1]
  have h2 : ∀ k j : Fin 1024, (iblk m c 2 t : Vec Ideal S1024x1024 .bf16) (ix2 k j)
      = (m ((c : Thread nD τ).loc main_arg2) : Vec Ideal S1024x1024 .f32) (ix2 k j) := by
    intro k j
    blk_simp [iblk]
    rw [V_v0]
    congr 1
    blk_ext [index2]
  have h3 : ∀ j : Fin 1024, (iblk m c 3 t : Vec Ideal S1x1024 .f32) (ix2 0 j)
      = (m ((c : Thread nD τ).loc main_arg3) : Vec Ideal S1024 .f32) (ix1 j) := by
    intro j
    blk_simp [iblk]
    have e : (win0_3.blk t).view.emb (ix2 (0 : Fin 1) j) = (ix2 0 j : S1x1024.Idx) := by blk_ext [index3]
    rw [e, V_v1]
    pointwise
  have h4 : ∀ j : Fin 1024, (iblk m c 4 t : Vec Ideal S1024x1024 .f32) (ix2 p j)
      = (m ((c : Thread nD τ).loc main_arg4) : Vec Ideal S32768x1024 .f32) (ix2 ⟨t.val * 1024 + p.val, h⟩ j) := by
    intro j
    blk_simp [iblk]
    rw [V_main_arg4]
    congr 1
    blk_ext [index4]
  rw [ref_apply]
  unfold block
  simp only [ix2_0, ix2_1, h0, h1, h2, h3, h4]

/-- The result array after the run is the reference's term of the arguments. -/
theorem final (c : Dev nD) : (dats m 0 c).arrAt 5 cfg0.N
    = LastRefIdeal.Read.val_main_v16 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) := by
  refine (dats m 0 c).arrAt_eq_of_covers 5 _ (by decide +kernel) fun t hf y => ?_
  have ht : t.val < 32 := lt_of_lt_of_eq t.isLt N_0
  obtain ⟨p, q, rfl⟩ : ∃ (p : Fin 1024) (q : Fin 1024), y = ix2 p q := ⟨y 0, y 1, eq_ix2 y⟩
  have e : ((cfg0.win 5).blk t).view.emb (ix2 p q) = (ix2 ⟨t.val * 1024 + p.val, by omega⟩ q : S32768x1024.Idx) := by
    blk_ext [index5]
  rw [e]
  blk_simp
  rw [after0_5, out_eq]
  exact block_eq m c t p q _

end Cert.LastIdeal.Sum
-- ==== Proof.Mid.lean ====
/-
  The projection between two layers: the last projection of one layer and the first of the next, on the same rows.

  The kernel walks 32 blocks of 1024 rows, each in two halves of 512 rows, and stores the new activations and then
  their normalized rows' product in chunks of 512 columns. The reference states both over the whole arrays.
-/
module

public import proofs.«01_k».proof.Proof.Rows
public import proofs.«01_k».proof.Proof.Gen.MidIdeal.Value
public import proofs.«01_k».proof.Proof.Gen.MidRefIdeal.Read
public import Idealize.ShloMosaic.Lib.Pipeline.ValueKit.Geometry
public import Idealize.ShloMosaic.Lib.Tactic

@[expose] public section

set_option maxRecDepth 16384

noncomputable section

open Idealize.ShloMosaic Idealize.ShloMosaic.TcCoe Idealize.SL.Sem

namespace Cert.MidIdeal.Sum

open Cert.MidIdeal Cert.MidIdeal.Gen Cert.Rows

/-! ## One block of rows -/

section Block

variable (x0 x1 : Vec Ideal S1024x512 .bf16) (x2 : Vec Ideal S1024x1024 .bf16) (x3 : Vec Ideal S1x1024 .f32)
  (x4 : Vec Ideal S1024x1024 .f32) (x5 : Vec Ideal S1x1024 .f32)

/-- Row `r` of the new activations of a block. -/
def rowOf (r : Fin 1024) : Fin 1024 → EReal :=
  added (fun k => x0 (ix2 r k)) (fun k => x1 (ix2 r k)) (fun k j => x2 (ix2 k j)) (fun j => x3 (ix2 0 j))
    (fun j => x4 (ix2 r j))

/-- The new activations of a block. -/
def block : Vec Ideal S1024x1024 .f32 := fun y => rowOf x0 x1 x2 x3 x4 (y 0) (y 1)

/-- Rows `N` times the weights. -/
def product {n : Nat} (N : Fin 1024 → Fin 1024 → EReal) (x6 : Vec Ideal ⟨2, ![1024, n]⟩ .bf16) :
    Vec Ideal ⟨2, ![1024, n]⟩ .bf16 :=
  fun y => ∑ k : Fin 1024, N (y 0) k * x6 (ix2 k (y 1))

theorem hz : (![0, 0] : Fin 2 → Nat) = fun _ => 0 := funext fun a => by fin_cases a <;> rfl

/-- Where a rectangle at rows `a` and columns `o` puts an index. -/
theorem emb_eq {n₀ n₁ k₀ k₁ : Nat} (a o : Nat)
    (inb : ∀ d, (![a, o] : Fin 2 → Nat) d + (![k₀, k₁] : Fin 2 → Nat) d ≤ (⟨2, ![n₀, n₁]⟩ : Shape).size d)
    (x : (⟨2, ![k₀, k₁]⟩ : Shape).Idx) :
    (Rect.unit (s := ⟨2, ![n₀, n₁]⟩) ![a, o] ![k₀, k₁] inb).emb x
      = ix2 ⟨a + (x 0).val, lt_of_lt_of_le (Nat.add_lt_add_left (x 0).isLt a) (inb 0)⟩
          ⟨o + (x 1).val, lt_of_lt_of_le (Nat.add_lt_add_left (x 1).isLt o) (inb 1)⟩ := by
  funext d; apply Fin.ext
  rw [ValueKit.rect_emb_unit_val]
  match d with
  | ⟨0, _⟩ => rfl
  | ⟨1, _⟩ => rfl

/-- The upper half's new activations. -/
theorem upper_apply (r : Fin 512) (j : Fin 1024) :
    k0_pay6 (View.ld x4 r0_1) (k0_pay4 (View.ld x0 r0_0) (View.ld x2 r0_1) (View.ld x1 r0_0) (View.ld x2 r0_2))
        (k0_pay5 (View.ld x3 r0_4)) (ix2 r j)
      = rowOf x0 x1 x2 x3 x4 ⟨0 + r.val, by omega⟩ j := by
  pointwise [k0_pay6, k0_pay4, k0_pay5, rowOf, added, rmsNorm, mixed]

/-- The lower half's new activations. -/
theorem lower_apply (r : Fin 512) (j : Fin 1024) :
    k0_pay8 (k0_pay3 (View.ld x0 r0_3) (View.ld x2 r0_1) (View.ld x1 r0_3) (View.ld x2 r0_2)) (View.ld x4 r0_2)
        (View.ld x3 r0_4) (ix2 r j)
      = rowOf x0 x1 x2 x3 x4 ⟨512 + r.val, by omega⟩ j := by
  pointwise [k0_pay8, k0_pay3, rowOf, added, rmsNorm, mixed]

/-- The body leaves the new activations in the first result's buffer. -/
theorem out7_eq (x6 : Vec Ideal S1024x3072 .bf16) : out0_7 x0 x1 x2 x3 x4 x5 x6 = block x0 x1 x2 x3 x4 := by
  funext y
  refine View.canon_apply_of_pieces (block x0 x1 x2 x3 x4) _ (fun p hp => ?_) y (cover0_7 _ _ y)
  simp only [List.mem_cons, List.not_mem_nil, or_false] at hp
  rcases hp with rfl | rfl
  · intro x
    rw [emb_eq (n₀ := 1024) (n₁ := 1024) (k₀ := 512) (k₁ := 1024), eq_ix2 x]
    refine (lower_apply x0 x1 x2 x3 x4 (x 0) (x 1)).trans ?_
    simp only [block, ix2_0, ix2_1, Nat.zero_add]; rfl
  · intro x
    rw [emb_eq (n₀ := 1024) (n₁ := 1024) (k₀ := 512) (k₁ := 1024), eq_ix2 x]
    refine (upper_apply x0 x1 x2 x3 x4 (x 0) (x 1)).trans ?_
    simp only [block, ix2_0, ix2_1, Nat.zero_add]; rfl

/-- The upper half's rows, normalized for the product. -/
theorem upper_norm (r : Fin 512) (k : Fin 1024) :
    k0_pay7 (View.ld x4 r0_1) (k0_pay4 (View.ld x0 r0_0) (View.ld x2 r0_1) (View.ld x1 r0_0) (View.ld x2 r0_2))
        (k0_pay5 (View.ld x3 r0_4)) (View.ld x5 r0_4) (ix2 r k)
      = rmsNorm (rowOf x0 x1 x2 x3 x4 ⟨0 + r.val, by omega⟩) (fun j => x5 (ix2 0 j)) k := by
  pointwise [k0_pay7, rmsNorm, upper_apply]

/-- The lower half's rows, normalized for the product. -/
theorem lower_norm (r : Fin 512) (k : Fin 1024) :
    k0_pay10 (k0_pay8 (k0_pay3 (View.ld x0 r0_3) (View.ld x2 r0_1) (View.ld x1 r0_3) (View.ld x2 r0_2)) (View.ld x4 r0_2)
        (View.ld x3 r0_4)) (k0_pay9 (k0_pay3 (View.ld x0 r0_3) (View.ld x2 r0_1) (View.ld x1 r0_3) (View.ld x2 r0_2))
        (View.ld x4 r0_2) (View.ld x3 r0_4)) (View.ld x5 r0_4) (ix2 r k)
      = rmsNorm (rowOf x0 x1 x2 x3 x4 ⟨512 + r.val, by omega⟩) (fun j => x5 (ix2 0 j)) k := by
  pointwise [k0_pay10, k0_pay9, rmsNorm, lower_apply]

/-- A chunk of the product: normalized rows from row `a`, stored at column `o`. -/
theorem chunk_eq {n : Nat} (N : Fin 1024 → Fin 1024 → EReal) (h : Vec Ideal S512x1024 .bf16)
    (x6 : Vec Ideal ⟨2, ![1024, n]⟩ .bf16)
    (a o : Nat) (ha : a + 512 ≤ 1024) (hh : ∀ (r : Fin 512) (k : Fin 1024), h (ix2 r k) = N ⟨a + r.val, by omega⟩ k)
    (inb : ∀ d, (![0, o] : Fin 2 → Nat) d + S1024x512.size d ≤ (⟨2, ![1024, n]⟩ : Shape).size d)
    (inb' : ∀ d, (![a, o] : Fin 2 → Nat) d + S512x512.size d ≤ (⟨2, ![1024, n]⟩ : Shape).size d) (x : S512x512.Idx) :
    k0_pay1 h (View.ld x6 (Rect.unit (s := ⟨2, ![1024, n]⟩) ![0, o] S1024x512.size inb)) x
      = product N x6 ((Rect.unit (s := ⟨2, ![1024, n]⟩) ![a, o] S512x512.size inb').emb x) := by
  rw [emb_eq (n₀ := 1024) (n₁ := n) (k₀ := 512) (k₁ := 512), eq_ix2 x]
  pointwise [k0_pay1, product, hh]
  refine Finset.sum_congr rfl fun k _ => congrArg (N _ k * x6 ·) ?_
  funext d; apply Fin.ext
  match d with
  | ⟨0, _⟩ => exact Nat.zero_add _
  | ⟨1, _⟩ => rfl

/-- The body leaves the product in the second result's buffer. -/
theorem out8_eq (x6 : Vec Ideal S1024x3072 .bf16) : out0_8 x0 x1 x2 x3 x4 x5 x6
    = product (fun r => rmsNorm (rowOf x0 x1 x2 x3 x4 r) (fun j => x5 (ix2 0 j))) x6 := by
  funext y
  refine View.canon_apply_of_pieces (product (fun r => rmsNorm (rowOf x0 x1 x2 x3 x4 r) (fun j => x5 (ix2 0 j))) x6) _
    (fun p hp => ?_) y (cover0_8 _ _ _ _ _ _ _ _ _ _ _ _ y)
  simp only [List.mem_cons, List.not_mem_nil, or_false] at hp
  rcases hp with rfl | rfl | rfl | rfl | rfl | rfl | rfl | rfl | rfl | rfl | rfl | rfl
  iterate 6 exact chunk_eq _ _ x6 512 _ (by decide) (lower_norm x0 x1 x2 x3 x4 x5) _ (by decide)
  all_goals exact chunk_eq _ _ x6 0 _ (by decide) (upper_norm x0 x1 x2 x3 x4 x5) _ (by decide)

end Block

/-! ## The reference -/

section Reference

variable (x0 x1 : Vec Ideal MidRefIdeal.S32768x512 .bf16) (x2 : Vec Ideal MidRefIdeal.S1024x1024 .f32)
  (x3 : Vec Ideal MidRefIdeal.S1024 .f32) (x4 : Vec Ideal MidRefIdeal.S32768x1024 .f32) (x5 : Vec Ideal MidRefIdeal.S1024 .f32)

/-- Row `r` of the reference's new activations. -/
def refRow (r : Fin 32768) : Fin 1024 → EReal :=
  added (fun k => x0 (ix2 r k)) (fun k => x1 (ix2 r k)) (fun k j => x2 (ix2 k j)) (fun j => x3 (ix1 j))
    (fun j => x4 (ix2 r j))

theorem ref16_apply (r : Fin 32768) (j : Fin 1024) :
    MidRefIdeal.Read.val_main_v16 (F := Ideal) x0 x1 x2 x3 x4 (ix2 r j) = refRow x0 x1 x2 x3 x4 r j := by
  have h2 : ∀ j : Fin 1024, MidRefIdeal.Read.val_main_v2 (F := Ideal) x0 x1 x2 (ix2 r j)
      = mixed (fun k => x0 (ix2 r k)) (fun k => x1 (ix2 r k)) (fun k j => x2 (ix2 k j)) j := by
    intro j
    pointwise [MidRefIdeal.Read.val_main_v2, MidRefIdeal.Read.val_main_v1, MidRefIdeal.Read.val_main_v0, mixed]
  pointwise [MidRefIdeal.Read.val_main_v16, MidRefIdeal.Read.val_main_v15, MidRefIdeal.Read.val_main_v14,
    MidRefIdeal.Read.val_main_v13, MidRefIdeal.Read.val_main_v12, MidRefIdeal.Read.val_main_v11,
    MidRefIdeal.Read.val_main_v10, MidRefIdeal.Read.val_main_v9, MidRefIdeal.Read.val_main_v8,
    MidRefIdeal.Read.val_main_v7, MidRefIdeal.Read.val_main_v6, MidRefIdeal.Read.val_main_v5,
    MidRefIdeal.Read.val_main_v4, MidRefIdeal.Read.val_main_v3, MidRefIdeal.Read.val_main_cst,
    MidRefIdeal.Read.val_main_cst_0, MidRefIdeal.Read.val_main_cst_1, refRow, added, rmsNorm, h2]

/-- The reference's normalized rows. -/
theorem ref29_apply (r : Fin 32768) (k : Fin 1024) :
    MidRefIdeal.Read.val_main_v29 (F := Ideal) x0 x1 x2 x3 x4 x5 (ix2 r k)
      = rmsNorm (refRow x0 x1 x2 x3 x4 r) (fun j => x5 (ix1 j)) k := by
  pointwise [MidRefIdeal.Read.val_main_v29,
    MidRefIdeal.Read.val_main_v28, MidRefIdeal.Read.val_main_v27, MidRefIdeal.Read.val_main_v26,
    MidRefIdeal.Read.val_main_v25, MidRefIdeal.Read.val_main_v24, MidRefIdeal.Read.val_main_v23,
    MidRefIdeal.Read.val_main_v22, MidRefIdeal.Read.val_main_v21, MidRefIdeal.Read.val_main_v20,
    MidRefIdeal.Read.val_main_v19, MidRefIdeal.Read.val_main_v18, MidRefIdeal.Read.val_main_v17,
    MidRefIdeal.Read.val_main_cst_2, MidRefIdeal.Read.val_main_cst_3, MidRefIdeal.Read.val_main_cst_4, rmsNorm, ref16_apply]

theorem ref31_apply (x6 : Vec Ideal MidRefIdeal.S1024x3072 .f32) (r : Fin 32768) (j : Fin 3072) :
    MidRefIdeal.Read.val_main_v31 (F := Ideal) x0 x1 x2 x3 x4 x5 x6 (ix2 r j)
      = ∑ k : Fin 1024, rmsNorm (refRow x0 x1 x2 x3 x4 r) (fun j => x5 (ix1 j)) k * x6 (ix2 k j) := by
  pointwise [MidRefIdeal.Read.val_main_v31, MidRefIdeal.Read.val_main_v30, ref29_apply]

end Reference

/-! ## The whole arrays -/

variable (m : (ℓ : Loc nD τ sig) → Buf (Elt Ideal) ℓ) (ρ : Dev nD → PrngReg)

theorem V_v0 (c : Dev nD) : (V m c main_v0 : Vec Ideal S1024x1024 .bf16) = m ((c : Thread nD τ).loc main_arg2) := by
  unfold V; after_results; rfl

theorem V_v1 (c : Dev nD) : (V m c main_v1 : Vec Ideal S1024x3072 .bf16) = m ((c : Thread nD τ).loc main_arg6) := by
  unfold V; after_results; rfl

theorem V_v2 (c : Dev nD) : (V m c main_v2 : Vec Ideal S1x1024 .f32)
    = shapeCast S1x1024 (m ((c : Thread nD τ).loc main_arg3)) shapeCasts_S1024_S1x1024 := by
  unfold V; after_results; rfl

theorem V_v3 (c : Dev nD) : (V m c main_v3 : Vec Ideal S1x1024 .f32)
    = shapeCast S1x1024 (m ((c : Thread nD τ).loc main_arg5)) shapeCasts_S1024_S1x1024 := by
  unfold V; after_results; rfl

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])

/-- A weight row, staged whole at every point. -/
theorem weight3 (c : Dev nD) (t : Fin cfg0.N) (j : Fin 1024) : (iblk m c 3 t : Vec Ideal S1x1024 .f32) (ix2 0 j)
    = (m ((c : Thread nD τ).loc main_arg3) : Vec Ideal S1024 .f32) (ix1 j) := by
  blk_simp [iblk]
  have e : (win0_3.blk t).view.emb (ix2 (0 : Fin 1) j) = (ix2 0 j : S1x1024.Idx) := by blk_ext [index3]
  rw [e, V_v2]
  pointwise

theorem weight5 (c : Dev nD) (t : Fin cfg0.N) (j : Fin 1024) : (iblk m c 5 t : Vec Ideal S1x1024 .f32) (ix2 0 j)
    = (m ((c : Thread nD τ).loc main_arg5) : Vec Ideal S1024 .f32) (ix1 j) := by
  blk_simp [iblk]
  have e : (win0_5.blk t).view.emb (ix2 (0 : Fin 1) j) = (ix2 0 j : S1x1024.Idx) := by blk_ext [index5]
  rw [e, V_v3]
  pointwise

theorem weights6 (c : Dev nD) (t : Fin cfg0.N) (k : Fin 1024) (j : Fin 3072) :
    (iblk m c 6 t : Vec Ideal S1024x3072 .bf16) (ix2 k j)
      = (m ((c : Thread nD τ).loc main_arg6) : Vec Ideal S1024x3072 .f32) (ix2 k j) := by
  blk_simp [iblk]
  rw [V_v1]
  congr 1
  blk_ext [index6]

/-- Row `p` of block `t` is the reference's row. -/
theorem row_eq (c : Dev nD) (t : Fin cfg0.N) (p : Fin 1024) (h : t.val * 1024 + p.val < 32768) :
    rowOf (iblk m c 0 t) (iblk m c 1 t) (iblk m c 2 t) (iblk m c 3 t) (iblk m c 4 t) p
      = refRow (m ((c : Thread nD τ).loc main_arg0)) (m ((c : Thread nD τ).loc main_arg1))
          (m ((c : Thread nD τ).loc main_arg2)) (m ((c : Thread nD τ).loc main_arg3)) (m ((c : Thread nD τ).loc main_arg4))
          ⟨t.val * 1024 + p.val, h⟩ := by
  have h0 : ∀ j : Fin 512, (iblk m c 0 t : Vec Ideal S1024x512 .bf16) (ix2 p j)
      = (m ((c : Thread nD τ).loc main_arg0) : Vec Ideal S32768x512 .bf16) (ix2 ⟨t.val * 1024 + p.val, h⟩ j) := by
    intro j
    blk_simp [iblk]
    rw [V_main_arg0]
    congr 1
    blk_ext [index0]
  have h1 : ∀ j : Fin 512, (iblk m c 1 t : Vec Ideal S1024x512 .bf16) (ix2 p j)
      = (m ((c : Thread nD τ).loc main_arg1) : Vec Ideal S32768x512 .bf16) (ix2 ⟨t.val * 1024 + p.val, h⟩ j) := by
    intro j
    blk_simp [iblk]
    rw [V_main_arg1]
    congr 1
    blk_ext [index1]
  have h2 : ∀ k j : Fin 1024, (iblk m c 2 t : Vec Ideal S1024x1024 .bf16) (ix2 k j)
      = (m ((c : Thread nD τ).loc main_arg2) : Vec Ideal S1024x1024 .f32) (ix2 k j) := by
    intro k j
    blk_simp [iblk]
    rw [V_v0]
    congr 1
    blk_ext [index2]
  have h4 : ∀ j : Fin 1024, (iblk m c 4 t : Vec Ideal S1024x1024 .f32) (ix2 p j)
      = (m ((c : Thread nD τ).loc main_arg4) : Vec Ideal S32768x1024 .f32) (ix2 ⟨t.val * 1024 + p.val, h⟩ j) := by
    intro j
    blk_simp [iblk]
    rw [V_main_arg4]
    congr 1
    blk_ext [index4]
  unfold rowOf refRow
  simp only [h0, h1, h2, h4, weight3]

/-- The new activations after the run are the reference's. -/
theorem final7 (c : Dev nD) : (dats m 0 c).arrAt 7 cfg0.N
    = MidRefIdeal.Read.val_main_v16 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) := by
  refine (dats m 0 c).arrAt_eq_of_covers 7 _ (by decide +kernel) fun t hf y => ?_
  have ht : t.val < 32 := lt_of_lt_of_eq t.isLt N_0
  obtain ⟨p, q, rfl⟩ : ∃ (p : Fin 1024) (q : Fin 1024), y = ix2 p q := ⟨y 0, y 1, eq_ix2 y⟩
  have e : ((cfg0.win 7).blk t).view.emb (ix2 p q) = (ix2 ⟨t.val * 1024 + p.val, by omega⟩ q : S32768x1024.Idx) := by
    blk_ext [index7]
  rw [e]
  blk_simp
  rw [after0_7, out7_eq, ref16_apply]
  exact congrFun (row_eq m c t p _) q

/-- The product after the run is the reference's. -/
theorem final8 (c : Dev nD) : (dats m 0 c).arrAt 8 cfg0.N
    = MidRefIdeal.Read.val_main_v31 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 8 _ (by decide +kernel) fun t hf y => ?_
  have ht : t.val < 32 := lt_of_lt_of_eq t.isLt N_0
  obtain ⟨p, q, rfl⟩ : ∃ (p : Fin 1024) (q : Fin 3072), y = ix2 p q := ⟨y 0, y 1, eq_ix2 y⟩
  have e : ((cfg0.win 8).blk t).view.emb (ix2 p q) = (ix2 ⟨t.val * 1024 + p.val, by omega⟩ q : S32768x3072.Idx) := by
    blk_ext [index8]
  rw [e]
  blk_simp
  rw [after0_8, out8_eq, ref31_apply]
  unfold product
  simp only [ix2_0, ix2_1, row_eq m c t p (by omega), weight5, weights6]

end Cert.MidIdeal.Sum
-- ==== Proof.Wide.lean ====
/-
  The projection between two layers at the width of an odd layer followed by an even one: the arithmetic of a block and
  of the reference's rows is the narrower projection's, and the product has 7 chunks of columns in each half of rows.
-/
module

public import proofs.«01_k».proof.Proof.Mid
public import proofs.«01_k».proof.Proof.Gen.WideIdeal.Value
public import proofs.«01_k».proof.Proof.Gen.WideRefIdeal.Read
public import Idealize.ShloMosaic.Lib.Pipeline.ValueKit.Geometry
public import Idealize.ShloMosaic.Lib.Tactic

@[expose] public section

set_option maxRecDepth 16384

noncomputable section

open Idealize.ShloMosaic Idealize.ShloMosaic.TcCoe Idealize.SL.Sem

namespace Cert.WideIdeal.Sum

open Cert.WideIdeal Cert.WideIdeal.Gen Cert.Rows
open Cert.MidIdeal.Sum (rowOf block product chunk_eq upper_apply lower_apply upper_norm lower_norm emb_eq refRow ref16_apply)

/-! ## One block of rows -/

section Block

variable (x0 x1 : Vec Ideal S1024x512 .bf16) (x2 : Vec Ideal S1024x1024 .bf16) (x3 : Vec Ideal S1x1024 .f32)
  (x4 : Vec Ideal S1024x1024 .f32) (x5 : Vec Ideal S1x1024 .f32) (x6 : Vec Ideal S1024x3584 .bf16)

/-- The body leaves the new activations in the first result's buffer. -/
theorem out7_eq : out0_7 x0 x1 x2 x3 x4 x5 x6 = block x0 x1 x2 x3 x4 := MidIdeal.Sum.out7_eq x0 x1 x2 x3 x4 x5 0

/-- The body leaves the product in the second result's buffer. -/
theorem out8_eq : out0_8 x0 x1 x2 x3 x4 x5 x6
    = product (fun r => rmsNorm (rowOf x0 x1 x2 x3 x4 r) (fun j => x5 (ix2 0 j))) x6 := by
  funext y
  refine View.canon_apply_of_pieces
    (product (fun r => rmsNorm (rowOf x0 x1 x2 x3 x4 r) (fun j => x5 (ix2 0 j))) x6 : Vec Ideal S1024x3584 .bf16) _
    (fun p hp => ?_) y (cover0_8 _ _ _ _ _ _ _ _ _ _ _ _ _ _ y)
  simp only [List.mem_cons, List.not_mem_nil, or_false] at hp
  rcases hp with rfl | rfl | rfl | rfl | rfl | rfl | rfl | rfl | rfl | rfl | rfl | rfl | rfl | rfl
  iterate 7 exact chunk_eq _ _ x6 512 _ (by decide) (lower_norm x0 x1 x2 x3 x4 x5) _ (by decide)
  all_goals exact chunk_eq _ _ x6 0 _ (by decide) (upper_norm x0 x1 x2 x3 x4 x5) _ (by decide)

end Block

/-! ## The reference -/

section Reference

variable (x0 x1 : Vec Ideal WideRefIdeal.S32768x512 .bf16) (x2 : Vec Ideal WideRefIdeal.S1024x1024 .f32)
  (x3 : Vec Ideal WideRefIdeal.S1024 .f32) (x4 : Vec Ideal WideRefIdeal.S32768x1024 .f32)
  (x5 : Vec Ideal WideRefIdeal.S1024 .f32)

/-- The reference's new activations are the narrower projection's. -/
theorem ref16_eq : WideRefIdeal.Read.val_main_v16 (F := Ideal) x0 x1 x2 x3 x4
    = MidRefIdeal.Read.val_main_v16 (F := Ideal) x0 x1 x2 x3 x4 := rfl

/-- The reference's normalized rows are the narrower projection's. -/
theorem ref29_eq : WideRefIdeal.Read.val_main_v29 (F := Ideal) x0 x1 x2 x3 x4 x5
    = MidRefIdeal.Read.val_main_v29 (F := Ideal) x0 x1 x2 x3 x4 x5 := rfl

theorem ref31_apply (x6 : Vec Ideal WideRefIdeal.S1024x3584 .f32) (r : Fin 32768) (j : Fin 3584) :
    WideRefIdeal.Read.val_main_v31 (F := Ideal) x0 x1 x2 x3 x4 x5 x6 (ix2 r j)
      = ∑ k : Fin 1024, rmsNorm (refRow x0 x1 x2 x3 x4 r) (fun j => x5 (ix1 j)) k * x6 (ix2 k j) := by
  pointwise [WideRefIdeal.Read.val_main_v31, WideRefIdeal.Read.val_main_v30, ref29_eq, MidIdeal.Sum.ref29_apply]

end Reference

/-! ## The whole arrays -/

variable (m : (ℓ : Loc nD τ sig) → Buf (Elt Ideal) ℓ) (ρ : Dev nD → PrngReg)

theorem V_v0 (c : Dev nD) : (V m c main_v0 : Vec Ideal S1024x1024 .bf16) = m ((c : Thread nD τ).loc main_arg2) := by
  unfold V; after_results; rfl

theorem V_v1 (c : Dev nD) : (V m c main_v1 : Vec Ideal S1024x3584 .bf16) = m ((c : Thread nD τ).loc main_arg6) := by
  unfold V; after_results; rfl

theorem V_v2 (c : Dev nD) : (V m c main_v2 : Vec Ideal S1x1024 .f32)
    = shapeCast S1x1024 (m ((c : Thread nD τ).loc main_arg3)) shapeCasts_S1024_S1x1024 := by
  unfold V; after_results; rfl

theorem V_v3 (c : Dev nD) : (V m c main_v3 : Vec Ideal S1x1024 .f32)
    = shapeCast S1x1024 (m ((c : Thread nD τ).loc main_arg5)) shapeCasts_S1024_S1x1024 := by
  unfold V; after_results; rfl

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])

/-- A weight row, staged whole at every point. -/
theorem weight3 (c : Dev nD) (t : Fin cfg0.N) (j : Fin 1024) : (iblk m c 3 t : Vec Ideal S1x1024 .f32) (ix2 0 j)
    = (m ((c : Thread nD τ).loc main_arg3) : Vec Ideal S1024 .f32) (ix1 j) := by
  blk_simp [iblk]
  have e : (win0_3.blk t).view.emb (ix2 (0 : Fin 1) j) = (ix2 0 j : S1x1024.Idx) := by blk_ext [index3]
  rw [e, V_v2]
  pointwise

theorem weight5 (c : Dev nD) (t : Fin cfg0.N) (j : Fin 1024) : (iblk m c 5 t : Vec Ideal S1x1024 .f32) (ix2 0 j)
    = (m ((c : Thread nD τ).loc main_arg5) : Vec Ideal S1024 .f32) (ix1 j) := by
  blk_simp [iblk]
  have e : (win0_5.blk t).view.emb (ix2 (0 : Fin 1) j) = (ix2 0 j : S1x1024.Idx) := by blk_ext [index5]
  rw [e, V_v3]
  pointwise

theorem weights6 (c : Dev nD) (t : Fin cfg0.N) (k : Fin 1024) (j : Fin 3584) :
    (iblk m c 6 t : Vec Ideal S1024x3584 .bf16) (ix2 k j)
      = (m ((c : Thread nD τ).loc main_arg6) : Vec Ideal S1024x3584 .f32) (ix2 k j) := by
  blk_simp [iblk]
  rw [V_v1]
  congr 1
  blk_ext [index6]

/-- Row `p` of block `t` is the reference's row. -/
theorem row_eq (c : Dev nD) (t : Fin cfg0.N) (p : Fin 1024) (h : t.val * 1024 + p.val < 32768) :
    rowOf (iblk m c 0 t) (iblk m c 1 t) (iblk m c 2 t) (iblk m c 3 t) (iblk m c 4 t) p
      = refRow (m ((c : Thread nD τ).loc main_arg0)) (m ((c : Thread nD τ).loc main_arg1))
          (m ((c : Thread nD τ).loc main_arg2)) (m ((c : Thread nD τ).loc main_arg3)) (m ((c : Thread nD τ).loc main_arg4))
          ⟨t.val * 1024 + p.val, h⟩ := by
  have h0 : ∀ j : Fin 512, (iblk m c 0 t : Vec Ideal S1024x512 .bf16) (ix2 p j)
      = (m ((c : Thread nD τ).loc main_arg0) : Vec Ideal S32768x512 .bf16) (ix2 ⟨t.val * 1024 + p.val, h⟩ j) := by
    intro j
    blk_simp [iblk]
    rw [V_main_arg0]
    congr 1
    blk_ext [index0]
  have h1 : ∀ j : Fin 512, (iblk m c 1 t : Vec Ideal S1024x512 .bf16) (ix2 p j)
      = (m ((c : Thread nD τ).loc main_arg1) : Vec Ideal S32768x512 .bf16) (ix2 ⟨t.val * 1024 + p.val, h⟩ j) := by
    intro j
    blk_simp [iblk]
    rw [V_main_arg1]
    congr 1
    blk_ext [index1]
  have h2 : ∀ k j : Fin 1024, (iblk m c 2 t : Vec Ideal S1024x1024 .bf16) (ix2 k j)
      = (m ((c : Thread nD τ).loc main_arg2) : Vec Ideal S1024x1024 .f32) (ix2 k j) := by
    intro k j
    blk_simp [iblk]
    rw [V_v0]
    congr 1
    blk_ext [index2]
  have h4 : ∀ j : Fin 1024, (iblk m c 4 t : Vec Ideal S1024x1024 .f32) (ix2 p j)
      = (m ((c : Thread nD τ).loc main_arg4) : Vec Ideal S32768x1024 .f32) (ix2 ⟨t.val * 1024 + p.val, h⟩ j) := by
    intro j
    blk_simp [iblk]
    rw [V_main_arg4]
    congr 1
    blk_ext [index4]
  unfold rowOf refRow
  simp only [h0, h1, h2, h4, weight3]

/-- The new activations after the run are the reference's. -/
theorem final7 (c : Dev nD) : (dats m 0 c).arrAt 7 cfg0.N
    = WideRefIdeal.Read.val_main_v16 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) := by
  refine (dats m 0 c).arrAt_eq_of_covers 7 _ (by decide +kernel) fun t hf y => ?_
  have ht : t.val < 32 := lt_of_lt_of_eq t.isLt N_0
  obtain ⟨p, q, rfl⟩ : ∃ (p : Fin 1024) (q : Fin 1024), y = ix2 p q := ⟨y 0, y 1, eq_ix2 y⟩
  have e : ((cfg0.win 7).blk t).view.emb (ix2 p q) = (ix2 ⟨t.val * 1024 + p.val, by omega⟩ q : S32768x1024.Idx) := by
    blk_ext [index7]
  rw [e]
  blk_simp
  rw [after0_7, out7_eq, ref16_eq, ref16_apply]
  exact congrFun (row_eq m c t p _) q

/-- The product after the run is the reference's. -/
theorem final8 (c : Dev nD) : (dats m 0 c).arrAt 8 cfg0.N
    = WideRefIdeal.Read.val_main_v31 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 8 _ (by decide +kernel) fun t hf y => ?_
  have ht : t.val < 32 := lt_of_lt_of_eq t.isLt N_0
  obtain ⟨p, q, rfl⟩ : ∃ (p : Fin 1024) (q : Fin 3584), y = ix2 p q := ⟨y 0, y 1, eq_ix2 y⟩
  have e : ((cfg0.win 8).blk t).view.emb (ix2 p q) = (ix2 ⟨t.val * 1024 + p.val, by omega⟩ q : S32768x3584.Idx) := by
    blk_ext [index8]
  rw [e]
  blk_simp
  rw [after0_8, out8_eq, ref31_apply]
  unfold product
  simp only [ix2_0, ix2_1, row_eq m c t p (by omega), weight5, weights6]

end Cert.WideIdeal.Sum
-- ==== Proof.Unit.lean ====
/-
  One head of one batch entry, over the loaded blocks: what the kernel's body computes for it from the tiles it loads,
  read at an index as plain sums.
-/
module

public import proofs.«01_k».proof.Proof.Gen.KernelIdeal.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Sum

open Cert.KernelIdeal Cert.KernelIdeal.Gen

/-! ## A unit of the body, on loaded tiles -/

section Tiles

variable (q k : Vec Ideal S1x128x256 .bf16) (rot : Vec Ideal S256x256 .bf16) (cs sn : Vec Ideal S128x256 .f32)
  (v gate : Vec Ideal S1x128x128 .bf16) (dec qd kd : Vec Ideal S1x128x128 .f32) (st : Vec Ideal S1x1x128x128 .f32)
  (p : CmpIPredicate) (l : Nat) (hl : S128x256.Slices ![0, l] S128x128)

/-- Queries or keys turned by their positions' angles. -/
def turned : FVec Ideal S128x256 .f32 :=
  addf (mulf (extf .f32 (shapeCast S128x256 q shapeCasts_S1x128x256_S128x256) bitsLt_bf16_f32)
      (shapeCast S128x256 cs shapeCasts_S128x256_S128x256))
    (mulf (matmul (φ₁ := .bf16) (φ₂ := .bf16) dot_S128x256_S256x256_S128x256_1_0_0_1_n_n none
        (shapeCast S128x256 q shapeCasts_S1x128x256_S128x256) (shapeCast S256x256 rot shapeCasts_S256x256_S256x256)
        (constant S128x256 .f32 0x00000000#32))
      (shapeCast S128x256 sn shapeCasts_S128x256_S128x256))

/-- The turned queries of one head among the two that share its lanes. -/
def queries : FVec Ideal S128x128 .f32 :=
  select (cmpi p (iota .tc S128x128 32 [1] iota_S128x128_d1_w32) (broadcast S128x128 64#32))
    (extractStridedSlice S128x128 ![0, l] (turned q rot cs sn) hl)
    (broadcast S128x128 (Scalar.ofBits (F := Ideal) .f32 0x00000000#32))

/-- The turned and scaled keys of the two heads that share their lanes. -/
def keys : FVec Ideal S128x128 .bf16 :=
  truncf .bf16 (extractStridedSlice S128x128 ![0, l]
    (mulf (turned k rot cs sn) (broadcast S128x256 (Scalar.ofBits (F := Ideal) .f32 0x3E000000#32))) hl) bitsLt_bf16_f32

/-- A chunk's retained values: those of the chunk and those the state carries. -/
def retained : FVec Ideal S128x128 .f32 :=
  addf (matmul (φ₁ := .bf16) (φ₂ := .bf16) dot_S128x128_S128x128_S128x128_1_0_0_1_n_n none
      (truncf .bf16 (mulf (matmul (φ₁ := .bf16) (φ₂ := .bf16) dot_S128x128_S128x128_S128x128_1_1_0_0_n_n none
          (truncf .bf16 (queries q rot cs sn p l hl) bitsLt_bf16_f32) (keys k rot cs sn l hl)
          (constant S128x128 .f32 0x00000000#32))
        (shapeCast S128x128 dec shapeCasts_S1x128x128_S128x128)) bitsLt_bf16_f32)
      (shapeCast S128x128 v shapeCasts_S1x128x128_S128x128) (constant S128x128 .f32 0x00000000#32))
    (matmul (φ₁ := .bf16) (φ₂ := .bf16) dot_S128x128_S128x128_S128x128_1_0_0_1_n_n none
      (truncf .bf16 (mulf (queries q rot cs sn p l hl) (shapeCast S128x128 qd shapeCasts_S1x128x128_S128x128)) bitsLt_bf16_f32)
      (truncf .bf16 (shapeCast S128x128 st shapeCasts_S1x1x128x128_S128x128) bitsLt_bf16_f32)
      (constant S128x128 .f32 0x00000000#32))

/-- The stored values: retained, normalized, gated. -/
def stored : FVec Ideal S1x128x128 .bf16 := k0_pay2 (retained q k rot cs sn v dec qd st p l hl) gate

/-- The stored state: the former one decayed by `g`, and the chunk's own. -/
def carried (g : EReal) : FVec Ideal S1x1x128x128 .f32 :=
  shapeCast S1x1x128x128 (addf (mulf (shapeCast S128x128 st shapeCasts_S1x1x128x128_S128x128) (broadcast S128x128 (g : Ideal .f32)))
    (matmul (φ₁ := .bf16) (φ₂ := .bf16) dot_S128x128_S128x128_S128x128_0_0_1_1_n_n none (keys k rot cs sn l hl)
      (truncf .bf16 (mulf (extf .f32 (shapeCast S128x128 v shapeCasts_S1x128x128_S128x128) bitsLt_bf16_f32)
        (shapeCast S128x128 kd shapeCasts_S1x128x128_S128x128)) bitsLt_bf16_f32)
      (constant S128x128 .f32 0x00000000#32))) shapeCasts_S128x128_S1x1x128x128

/-! ## The same, at an index -/

theorem turned_apply (i : Fin 128) (j : Fin 256) : turned q rot cs sn (ix2 i j)
    = q (ix3 0 i j) * cs (ix2 i j) + (∑ k : Fin 256, q (ix3 0 i k) * rot (ix2 k j)) * sn (ix2 i j) := by
  pointwise [turned]

theorem keys_apply (hl' : l + 128 ≤ 256) (i d : Fin 128) : keys k rot cs sn l hl (ix2 i d)
    = turned k rot cs sn (ix2 i ⟨l + d.val, by omega⟩) * Ideal.ofBits .f32 0x3E000000#32 := by
  pointwise [keys]

theorem queries_apply (hl' : l + 128 ≤ 256) (i d : Fin 128) : queries q rot cs sn p l hl (ix2 i d)
    = if cmpi p (iota .tc S128x128 32 [1] iota_S128x128_d1_w32) (broadcast S128x128 64#32) (ix2 i d) = 1#1
        then turned q rot cs sn (ix2 i ⟨l + d.val, by omega⟩) else 0 := by
  pointwise [queries, Scalar.select]
  rfl

theorem retained_apply (i e : Fin 128) : retained q k rot cs sn v dec qd st p l hl (ix2 i e)
    = (∑ j : Fin 128, (∑ d : Fin 128, queries q rot cs sn p l hl (ix2 i d) * keys k rot cs sn l hl (ix2 j d))
          * dec (ix3 0 i j) * v (ix3 0 j e))
      + ∑ d : Fin 128, queries q rot cs sn p l hl (ix2 i d) * qd (ix3 0 i d) * st (ix4 0 0 d e) := by
  pointwise [retained]

theorem carried_apply (g : EReal) (d e : Fin 128) : carried k rot cs sn v kd st l hl g (ix4 0 0 d e)
    = st (ix4 0 0 d e) * g + ∑ j : Fin 128, keys k rot cs sn l hl (ix2 j d) * (v (ix3 0 j e) * kd (ix3 0 j e)) := by
  pointwise [carried]

theorem stored_apply (i e : Fin 128) : stored q k rot cs sn v gate dec qd st p l hl (ix3 0 i e)
    = retained q k rot cs sn v dec qd st p l hl (ix2 i e)
        * Ideal.rsqrt (Ideal.div (∑ e' : Fin 128, retained q k rot cs sn v dec qd st p l hl (ix2 i e')
            * retained q k rot cs sn v dec qd st p l hl (ix2 i e')) (Ideal.ofBits .f32 0x43000000#32)
          + Ideal.ofBits .f32 0x358637BD#32)
        * (gate (ix3 0 i e) * Ideal.logistic (gate (ix3 0 i e))) := by
  pointwise [stored, k0_pay2]

/-- Of the 128 lanes two heads share, head `h` holds the half numbered by its parity. -/
theorem lane_iff (h : Nat) (hp : p = if h % 2 = 0 then CmpIPredicate.slt else CmpIPredicate.sge) (i d : Fin 128) :
    cmpi p (iota .tc S128x128 32 [1] iota_S128x128_d1_w32) (broadcast S128x128 64#32) (ix2 i d) = 1#1
      ↔ d.val / 64 = h % 2 := by
  have e : cmpi p (iota .tc S128x128 32 [1] iota_S128x128_d1_w32) (broadcast S128x128 64#32) (ix2 i d)
      = IntOp.cmpi p (BitVec.ofNat 32 d.val) 64#32 := by pointwise
  rw [e, hp]
  clear e
  rcases Nat.mod_two_eq_zero_or_one h with h0 | h0
  · rw [h0]; revert d; decide +kernel
  · rw [h0]; revert d; decide +kernel

end Tiles

/-! ## The same, over the blocks of a chunk -/

section Blocks

variable (x0 x1 : Vec Ideal S16x128x256 .bf16) (x2 x3 : Vec Ideal S16x128x512 .bf16) (x4 : Vec Ideal S256x256 .bf16)
  (x5 x6 : Vec Ideal S128x256 .f32) (x7 x8 x9 : Vec Ideal S4x128x128 .f32) (xs : Vec Ideal S16x4x128x128 .f32)
  (g : Fin 4 → EReal)

/-- The lane `d` among those head `h` shares with its neighbour. -/
def lane (h : Fin 4) (d : Fin 128) : Fin 256 := ⟨128 * (h.val / 2) + d.val, by omega⟩

/-- The column `e` of head `h` among the values. -/
def column (h : Fin 4) (e : Fin 128) : Fin 512 := ⟨128 * h.val + e.val, by omega⟩

/-- An entry of the queries or keys turned by the position's angles. -/
def turnedAt (x : Vec Ideal S16x128x256 .bf16) (b : Fin 16) (i : Fin 128) (j : Fin 256) : EReal :=
  x (ix3 b i j) * x5 (ix2 i j) + (∑ k : Fin 256, x (ix3 b i k) * x4 (ix2 k j)) * x6 (ix2 i j)

/-- A query of head `h`, zero on the other head's lanes. -/
def queryAt (b : Fin 16) (h : Fin 4) (i d : Fin 128) : EReal :=
  if d.val / 64 = h.val % 2 then turnedAt x4 x5 x6 x0 b i (lane h d) else 0

/-- A scaled key of the lanes of head `h`. -/
def keyAt (b : Fin 16) (h : Fin 4) (j d : Fin 128) : EReal :=
  turnedAt x4 x5 x6 x1 b j (lane h d) * Ideal.ofBits .f32 0x3E000000#32

/-- A retained value. -/
def retainedAt (b : Fin 16) (h : Fin 4) (i e : Fin 128) : EReal :=
  (∑ j : Fin 128, (∑ d : Fin 128, queryAt x0 x4 x5 x6 b h i d * keyAt x1 x4 x5 x6 b h j d) * x7 (ix3 h i j)
      * x2 (ix3 b j (column h e)))
    + ∑ d : Fin 128, queryAt x0 x4 x5 x6 b h i d * x8 (ix3 h i d) * xs (ix4 b h d e)

/-- A row `o` normalized, and gated by `u`. -/
def gated (o : Fin 128 → EReal) (u : EReal) (e : Fin 128) : EReal :=
  o e * Ideal.rsqrt (Ideal.div (∑ e' : Fin 128, o e' * o e') (Ideal.ofBits .f32 0x43000000#32)
    + Ideal.ofBits .f32 0x358637BD#32) * (u * Ideal.logistic u)

/-- A stored value. -/
def storedAt (b : Fin 16) (h : Fin 4) (i e : Fin 128) : EReal :=
  gated (retainedAt x0 x1 x2 x4 x5 x6 x7 x8 xs b h i) (x3 (ix3 b i (column h e))) e

/-- An entry of the state carried on. -/
def carriedAt (b : Fin 16) (h : Fin 4) (d e : Fin 128) : EReal :=
  xs (ix4 b h d e) * g h
    + ∑ j : Fin 128, keyAt x1 x4 x5 x6 b h j d * (x2 (ix3 b j (column h e)) * x9 (ix3 h j e))

/-- The stored block. -/
def storedBlock : Vec Ideal S16x128x512 .bf16 := fun y =>
  storedAt x0 x1 x2 x3 x4 x5 x6 x7 x8 xs (y 0) ⟨(y 2).val / 128, Nat.div_lt_of_lt_mul (y 2).isLt⟩ (y 1)
    ⟨(y 2).val % 128, Nat.mod_lt _ (by decide)⟩

/-- The state carried on. -/
def carriedBlock : Vec Ideal S16x4x128x128 .f32 := fun y => carriedAt x1 x2 x4 x5 x6 x9 xs g (y 0) (y 1) (y 2) (y 3)

variable {x0 x1 x2 x3 x4 x5 x6 x7 x8 x9 xs}
  {q k : Vec Ideal S1x128x256 .bf16} {rot : Vec Ideal S256x256 .bf16} {cs sn : Vec Ideal S128x256 .f32}
  {v gate : Vec Ideal S1x128x128 .bf16} {dec qd kd : Vec Ideal S1x128x128 .f32} {st : Vec Ideal S1x1x128x128 .f32}
  {p : CmpIPredicate} {l : Nat} {hl : S128x256.Slices ![0, l] S128x128} {b : Fin 16} {h : Fin 4}

theorem turned_at {x : Vec Ideal S16x128x256 .bf16} (hq : ∀ i j, q (ix3 0 i j) = x (ix3 b i j))
    (hr : ∀ i j, rot (ix2 i j) = x4 (ix2 i j)) (hc : ∀ i j, cs (ix2 i j) = x5 (ix2 i j))
    (hs : ∀ i j, sn (ix2 i j) = x6 (ix2 i j)) (i : Fin 128) (j : Fin 256) :
    turned q rot cs sn (ix2 i j) = turnedAt x4 x5 x6 x b i j := by
  simp only [turned_apply, turnedAt, hq, hr, hc, hs]

theorem query_at (hq : ∀ i j, q (ix3 0 i j) = x0 (ix3 b i j))
    (hr : ∀ i j, rot (ix2 i j) = x4 (ix2 i j)) (hc : ∀ i j, cs (ix2 i j) = x5 (ix2 i j))
    (hs : ∀ i j, sn (ix2 i j) = x6 (ix2 i j)) (el : l = 128 * (h.val / 2))
    (hp : p = if h.val % 2 = 0 then CmpIPredicate.slt else CmpIPredicate.sge) (i d : Fin 128) :
    queries q rot cs sn p l hl (ix2 i d) = queryAt x0 x4 x5 x6 b h i d := by
  subst el
  rw [queries_apply _ _ _ _ _ _ _ (by omega)]
  simp only [lane_iff p h.val hp, turned_at hq hr hc hs]
  rfl

theorem key_at (hk : ∀ i j, k (ix3 0 i j) = x1 (ix3 b i j))
    (hr : ∀ i j, rot (ix2 i j) = x4 (ix2 i j)) (hc : ∀ i j, cs (ix2 i j) = x5 (ix2 i j))
    (hs : ∀ i j, sn (ix2 i j) = x6 (ix2 i j)) (el : l = 128 * (h.val / 2)) (j d : Fin 128) :
    keys k rot cs sn l hl (ix2 j d) = keyAt x1 x4 x5 x6 b h j d := by
  subst el
  rw [keys_apply _ _ _ _ _ _ (by omega), turned_at hk hr hc hs]
  rfl

theorem retained_at (hq : ∀ i j, q (ix3 0 i j) = x0 (ix3 b i j)) (hk : ∀ i j, k (ix3 0 i j) = x1 (ix3 b i j))
    (hr : ∀ i j, rot (ix2 i j) = x4 (ix2 i j)) (hc : ∀ i j, cs (ix2 i j) = x5 (ix2 i j))
    (hs : ∀ i j, sn (ix2 i j) = x6 (ix2 i j)) (hv : ∀ j e, v (ix3 0 j e) = x2 (ix3 b j (column h e)))
    (h7 : ∀ i j, dec (ix3 0 i j) = x7 (ix3 h i j)) (h8 : ∀ i j, qd (ix3 0 i j) = x8 (ix3 h i j))
    (ht : ∀ d e, st (ix4 0 0 d e) = xs (ix4 b h d e)) (el : l = 128 * (h.val / 2))
    (hp : p = if h.val % 2 = 0 then CmpIPredicate.slt else CmpIPredicate.sge) (i e : Fin 128) :
    retained q k rot cs sn v dec qd st p l hl (ix2 i e) = retainedAt x0 x1 x2 x4 x5 x6 x7 x8 xs b h i e := by
  simp only [retained_apply, query_at hq hr hc hs el hp, key_at hk hr hc hs el, hv, h7, h8, ht, retainedAt]

theorem stored_at (hq : ∀ i j, q (ix3 0 i j) = x0 (ix3 b i j)) (hk : ∀ i j, k (ix3 0 i j) = x1 (ix3 b i j))
    (hr : ∀ i j, rot (ix2 i j) = x4 (ix2 i j)) (hc : ∀ i j, cs (ix2 i j) = x5 (ix2 i j))
    (hs : ∀ i j, sn (ix2 i j) = x6 (ix2 i j)) (hv : ∀ j e, v (ix3 0 j e) = x2 (ix3 b j (column h e)))
    (hg : ∀ j e, gate (ix3 0 j e) = x3 (ix3 b j (column h e)))
    (h7 : ∀ i j, dec (ix3 0 i j) = x7 (ix3 h i j)) (h8 : ∀ i j, qd (ix3 0 i j) = x8 (ix3 h i j))
    (ht : ∀ d e, st (ix4 0 0 d e) = xs (ix4 b h d e)) (el : l = 128 * (h.val / 2))
    (hp : p = if h.val % 2 = 0 then CmpIPredicate.slt else CmpIPredicate.sge) (i e : Fin 128) :
    stored q k rot cs sn v gate dec qd st p l hl (ix3 0 i e) = storedAt x0 x1 x2 x3 x4 x5 x6 x7 x8 xs b h i e := by
  simp only [stored_apply, retained_at hq hk hr hc hs hv h7 h8 ht el hp, hg, storedAt, gated]

theorem carried_at (hk : ∀ i j, k (ix3 0 i j) = x1 (ix3 b i j))
    (hr : ∀ i j, rot (ix2 i j) = x4 (ix2 i j)) (hc : ∀ i j, cs (ix2 i j) = x5 (ix2 i j))
    (hs : ∀ i j, sn (ix2 i j) = x6 (ix2 i j)) (hv : ∀ j e, v (ix3 0 j e) = x2 (ix3 b j (column h e)))
    (h9 : ∀ i j, kd (ix3 0 i j) = x9 (ix3 h i j)) (ht : ∀ d e, st (ix4 0 0 d e) = xs (ix4 b h d e))
    (el : l = 128 * (h.val / 2)) (d e : Fin 128) :
    carried k rot cs sn v kd st l hl (g h) (ix4 0 0 d e) = carriedAt x1 x2 x4 x5 x6 x9 xs g b h d e := by
  simp only [carried_apply, key_at hk hr hc hs el, hv, h9, ht, carriedAt]

end Blocks

end Cert.KernelIdeal.Sum
-- ==== Proof.Pieces.lean ====
/-
  The stores of one grid point: each is a head of one batch entry, so together they are one function of the index.
-/
module

public import proofs.«01_k».proof.Proof.Unit
public import Idealize.ShloMosaic.Lib.WholeRead
public import Idealize.ShloMosaic.Lib.Pipeline.ValueKit.Geometry

@[expose] public section

set_option maxRecDepth 16384

noncomputable section

open Idealize.ShloMosaic Idealize.ShloMosaic.TcCoe Idealize.SL.Sem

namespace Cert.KernelIdeal.Sum

open Cert.KernelIdeal Cert.KernelIdeal.Gen

/-! ## Loads -/

section Loads

variable {n₀ n₁ n₂ n₃ k₀ k₁ k₂ k₃ : Nat} {φ : EltTy}

theorem load2 {m : Memref sig .tc .vmem ⟨2, ![n₀, n₁]⟩ φ} (w : m.IsWhole) (x : Vec Ideal ⟨2, ![n₀, n₁]⟩ φ)
    (inb : ∀ d, (![0, 0] : Fin 2 → Nat) d + (![n₀, n₁] : Fin 2 → Nat) d ≤ (⟨2, ![n₀, n₁]⟩ : Shape).size d)
    (i : Fin n₀) (j : Fin n₁) :
    View.readAt (Elt Ideal) m.view (Rect.unit (s := ⟨2, ![n₀, n₁]⟩) ![0, 0] ![n₀, n₁] inb).toLoadRect (w.unread x)
        (ix2 i j) = x (ix2 i j) := by
  refine (w.readAt_unread x _ _).trans (congrArg x ?_)
  funext d; apply Fin.ext
  refine (ValueKit.rect_emb_unit_val _ _ _ _ _).trans ?_
  match d with
  | ⟨0, _⟩ => exact Nat.zero_add _
  | ⟨1, _⟩ => exact Nat.zero_add _

theorem load3 {m : Memref sig .tc .vmem ⟨3, ![n₀, n₁, n₂]⟩ φ} (w : m.IsWhole) (x : Vec Ideal ⟨3, ![n₀, n₁, n₂]⟩ φ)
    (b o : Nat) (inb : ∀ d, (![b, 0, o] : Fin 3 → Nat) d + (![1, n₁, k₂] : Fin 3 → Nat) d
      ≤ (⟨3, ![n₀, n₁, n₂]⟩ : Shape).size d) (i : Fin n₁) (j : Fin k₂) :
    View.readAt (Elt Ideal) m.view (Rect.unit (s := ⟨3, ![n₀, n₁, n₂]⟩) ![b, 0, o] ![1, n₁, k₂] inb).toLoadRect (w.unread x)
        (ix3 0 i j) = x (ix3 ⟨b, inb 0⟩ i ⟨o + j.val, lt_of_lt_of_le (Nat.add_lt_add_left j.isLt o) (inb 2)⟩) := by
  refine (w.readAt_unread x _ _).trans (congrArg x ?_)
  funext d; apply Fin.ext
  refine (ValueKit.rect_emb_unit_val _ _ _ _ _).trans ?_
  match d with
  | ⟨0, _⟩ => rfl
  | ⟨1, _⟩ => exact Nat.zero_add _
  | ⟨2, _⟩ => rfl

theorem load4 {m : Memref sig .tc .vmem ⟨4, ![n₀, n₁, n₂, n₃]⟩ φ} (w : m.IsWhole) (x : Vec Ideal ⟨4, ![n₀, n₁, n₂, n₃]⟩ φ)
    (b h : Nat) (inb : ∀ d, (![b, h, 0, 0] : Fin 4 → Nat) d + (![1, 1, n₂, n₃] : Fin 4 → Nat) d
      ≤ (⟨4, ![n₀, n₁, n₂, n₃]⟩ : Shape).size d) (i : Fin n₂) (j : Fin n₃) :
    View.readAt (Elt Ideal) m.view (Rect.unit (s := ⟨4, ![n₀, n₁, n₂, n₃]⟩) ![b, h, 0, 0] ![1, 1, n₂, n₃] inb).toLoadRect
        (w.unread x) (ix4 0 0 i j) = x (ix4 ⟨b, inb 0⟩ ⟨h, inb 1⟩ i j) := by
  refine (w.readAt_unread x _ _).trans (congrArg x ?_)
  funext d; apply Fin.ext
  refine (ValueKit.rect_emb_unit_val _ _ _ _ _).trans ?_
  match d with
  | ⟨0, _⟩ => rfl
  | ⟨1, _⟩ => rfl
  | ⟨2, _⟩ => exact Nat.zero_add _
  | ⟨3, _⟩ => exact Nat.zero_add _

end Loads

/-! ## One store -/

section Stores

variable {arg2 arg3 : Memref sig .tc .vmem S16x128x256 .bf16} (harg2 : arg2.IsWhole) (harg3 : arg3.IsWhole)
  {arg4 arg5 : Memref sig .tc .vmem S16x128x512 .bf16} (harg4 : arg4.IsWhole) (harg5 : arg5.IsWhole)
  {arg6 : Memref sig .tc .vmem S256x256 .bf16} (harg6 : arg6.IsWhole)
  {arg7 arg8 : Memref sig .tc .vmem S128x256 .f32} (harg7 : arg7.IsWhole) (harg8 : arg8.IsWhole)
  {arg9 arg10 arg11 : Memref sig .tc .vmem S4x128x128 .f32} (harg9 : arg9.IsWhole) (harg10 : arg10.IsWhole)
  (harg11 : arg11.IsWhole)
  (x0 x1 : Vec Ideal S16x128x256 .bf16) (x2 x3 : Vec Ideal S16x128x512 .bf16) (x4 : Vec Ideal S256x256 .bf16)
  (x5 x6 : Vec Ideal S128x256 .f32) (x7 x8 x9 : Vec Ideal S4x128x128 .f32) (xs : Vec Ideal S16x4x128x128 .f32)
  (g : Fin 4 → EReal)
  {b h o l : Nat} {p : CmpIPredicate} (hl : S128x256.Slices ![0, l] S128x128)
  (ib : ∀ d, (![b, 0, 0] : Fin 3 → Nat) d + S1x128x256.size d ≤ S16x128x256.size d)
  (iv : ∀ d, (![b, 0, o] : Fin 3 → Nat) d + S1x128x128.size d ≤ S16x128x512.size d)
  (ih : ∀ d, (![h, 0, 0] : Fin 3 → Nat) d + S1x128x128.size d ≤ S4x128x128.size d)
  (ir : ∀ d, (![0, 0] : Fin 2 → Nat) d + S256x256.size d ≤ S256x256.size d)
  (ic : ∀ d, (![0, 0] : Fin 2 → Nat) d + S128x256.size d ≤ S128x256.size d)
  (is : ∀ d, (![b, h, 0, 0] : Fin 4 → Nat) d + S1x1x128x128.size d ≤ S16x4x128x128.size d)
  (st : Vec Ideal S1x1x128x128 .f32)

/-- A store of the result is a head of one batch entry. -/
theorem stored_piece (eo : o = 128 * h) (el : l = 128 * (h / 2))
    (hp : p = if h % 2 = 0 then CmpIPredicate.slt else CmpIPredicate.sge)
    (ht : ∀ d e, st (ix4 0 0 d e) = xs (ix4 ⟨b, ib 0⟩ ⟨h, ih 0⟩ d e)) (x : S1x128x128.Idx) :
    stored (View.readAt (Elt Ideal) arg2.view (Rect.unit (s := S16x128x256) ![b, 0, 0] S1x128x256.size ib).toLoadRect (harg2.unread x0))
        (View.readAt (Elt Ideal) arg3.view (Rect.unit (s := S16x128x256) ![b, 0, 0] S1x128x256.size ib).toLoadRect (harg3.unread x1))
        (View.readAt (Elt Ideal) arg6.view (Rect.unit (s := S256x256) ![0, 0] S256x256.size ir).toLoadRect (harg6.unread x4))
        (View.readAt (Elt Ideal) arg7.view (Rect.unit (s := S128x256) ![0, 0] S128x256.size ic).toLoadRect (harg7.unread x5))
        (View.readAt (Elt Ideal) arg8.view (Rect.unit (s := S128x256) ![0, 0] S128x256.size ic).toLoadRect (harg8.unread x6))
        (View.readAt (Elt Ideal) arg4.view (Rect.unit (s := S16x128x512) ![b, 0, o] S1x128x128.size iv).toLoadRect (harg4.unread x2))
        (View.readAt (Elt Ideal) arg5.view (Rect.unit (s := S16x128x512) ![b, 0, o] S1x128x128.size iv).toLoadRect (harg5.unread x3))
        (View.readAt (Elt Ideal) arg9.view (Rect.unit (s := S4x128x128) ![h, 0, 0] S1x128x128.size ih).toLoadRect (harg9.unread x7))
        (View.readAt (Elt Ideal) arg10.view (Rect.unit (s := S4x128x128) ![h, 0, 0] S1x128x128.size ih).toLoadRect (harg10.unread x8))
        st p l hl x
      = storedBlock x0 x1 x2 x3 x4 x5 x6 x7 x8 xs ((Rect.unit (s := S16x128x512) ![b, 0, o] S1x128x128.size iv).emb x) := by
  subst eo
  obtain ⟨i, e, rfl⟩ : ∃ (i e : Fin 128), x = ix3 0 i e :=
    ⟨x 1, x 2, (eq_ix3 x).trans (congrArg (fun z => ix3 z (x 1) (x 2))
      (Fin.ext (Nat.lt_one_iff.mp (x 0).isLt) : x 0 = (0 : Fin 1)))⟩
  have hb : (Rect.unit (s := S16x128x512) ![b, 0, 128 * h] S1x128x128.size iv).emb (ix3 0 i e)
      = ix3 ⟨b, ib 0⟩ i (column ⟨h, ih 0⟩ e) := by
    funext d; apply Fin.ext
    refine (ValueKit.rect_emb_unit_val _ _ _ _ _).trans ?_
    match d with
    | ⟨0, _⟩ => rfl
    | ⟨1, _⟩ => exact Nat.zero_add _
    | ⟨2, _⟩ => rfl
  have z : ∀ {n : Nat} (j : Fin n) (hj : 0 + j.val < n), (⟨0 + j.val, hj⟩ : Fin n) = j := fun j _ => Fin.ext (Nat.zero_add _)
  rw [hb, stored_at (b := ⟨b, ib 0⟩) (h := ⟨h, ih 0⟩)
    (fun i j => (load3 harg2 x0 b 0 ib i j).trans (by rw [z])) (fun i j => (load3 harg3 x1 b 0 ib i j).trans (by rw [z]))
    (load2 harg6 x4 ir) (load2 harg7 x5 ic) (load2 harg8 x6 ic) (load3 harg4 x2 b _ iv) (load3 harg5 x3 b _ iv)
    (fun i j => (load3 harg9 x7 h 0 ih i j).trans (by rw [z])) (fun i j => (load3 harg10 x8 h 0 ih i j).trans (by rw [z]))
    ht el hp]
  have h1 : (128 * h + e.val) / 128 = h := by omega
  have h2 : (128 * h + e.val) % 128 = e.val := by omega
  show _ = storedAt x0 x1 x2 x3 x4 x5 x6 x7 x8 xs ⟨b, _⟩ ⟨(128 * h + e.val) / 128, _⟩ i ⟨(128 * h + e.val) % 128, _⟩
  simp only [h1, h2]

/-- A store of the state is a head of one batch entry. -/
theorem carried_piece (G : EReal) (eo : o = 128 * h) (el : l = 128 * (h / 2)) (eg : G = g ⟨h, ih 0⟩)
    (ht : ∀ d e, st (ix4 0 0 d e) = xs (ix4 ⟨b, ib 0⟩ ⟨h, ih 0⟩ d e)) (x : S1x1x128x128.Idx) :
    carried (View.readAt (Elt Ideal) arg3.view (Rect.unit (s := S16x128x256) ![b, 0, 0] S1x128x256.size ib).toLoadRect (harg3.unread x1))
        (View.readAt (Elt Ideal) arg6.view (Rect.unit (s := S256x256) ![0, 0] S256x256.size ir).toLoadRect (harg6.unread x4))
        (View.readAt (Elt Ideal) arg7.view (Rect.unit (s := S128x256) ![0, 0] S128x256.size ic).toLoadRect (harg7.unread x5))
        (View.readAt (Elt Ideal) arg8.view (Rect.unit (s := S128x256) ![0, 0] S128x256.size ic).toLoadRect (harg8.unread x6))
        (View.readAt (Elt Ideal) arg4.view (Rect.unit (s := S16x128x512) ![b, 0, o] S1x128x128.size iv).toLoadRect (harg4.unread x2))
        (View.readAt (Elt Ideal) arg11.view (Rect.unit (s := S4x128x128) ![h, 0, 0] S1x128x128.size ih).toLoadRect (harg11.unread x9))
        st l hl G x
      = carriedBlock x1 x2 x4 x5 x6 x9 xs g ((Rect.unit (s := S16x4x128x128) ![b, h, 0, 0] S1x1x128x128.size is).emb x) := by
  subst eo eg
  obtain ⟨d, e, rfl⟩ : ∃ (d e : Fin 128), x = ix4 0 0 d e :=
    ⟨x 2, x 3, (eq_ix4 x).trans (congrArg₂ (fun y z => ix4 y z (x 2) (x 3))
      (Fin.ext (Nat.lt_one_iff.mp (x 0).isLt) : x 0 = (0 : Fin 1)) (Fin.ext (Nat.lt_one_iff.mp (x 1).isLt) : x 1 = (0 : Fin 1)))⟩
  have hb : (Rect.unit (s := S16x4x128x128) ![b, h, 0, 0] S1x1x128x128.size is).emb (ix4 0 0 d e)
      = ix4 ⟨b, ib 0⟩ ⟨h, ih 0⟩ d e := by
    funext a; apply Fin.ext
    refine (ValueKit.rect_emb_unit_val _ _ _ _ _).trans ?_
    match a with
    | ⟨0, _⟩ => rfl
    | ⟨1, _⟩ => rfl
    | ⟨2, _⟩ => exact Nat.zero_add _
    | ⟨3, _⟩ => exact Nat.zero_add _
  have z : ∀ {n : Nat} (j : Fin n) (hj : 0 + j.val < n), (⟨0 + j.val, hj⟩ : Fin n) = j := fun j _ => Fin.ext (Nat.zero_add _)
  rw [hb, carried_at g (b := ⟨b, ib 0⟩) (h := ⟨h, ih 0⟩) (fun i j => (load3 harg3 x1 b 0 ib i j).trans (by rw [z]))
    (load2 harg6 x4 ir) (load2 harg7 x5 ic) (load2 harg8 x6 ic) (load3 harg4 x2 b _ iv)
    (fun i j => (load3 harg11 x9 h 0 ih i j).trans (by rw [z])) ht el]
  rfl

end Stores

end Cert.KernelIdeal.Sum
-- ==== Proof.Points.lean ====
/-
  What a grid point leaves in the result's buffer and in the carried state.
-/
module

public import proofs.«01_k».proof.Proof.Pieces
public import Idealize.ShloMosaic.Lib.Pipeline.ReadBack

@[expose] public section

set_option maxRecDepth 65536

noncomputable section

open Idealize.ShloMosaic Idealize.ShloMosaic.TcCoe Idealize.SL.Sem

namespace Cert.KernelIdeal.Sum

open Cert.KernelIdeal Cert.KernelIdeal.Gen

/-- The state's decay over a chunk, per head. -/
def decays : Fin 4 → EReal :=
  ![(Named.named κ "g0" 0x3C8CC36A#32 : Ideal .f32), (Named.named κ "g1" 0x3E08698E#32 : Ideal .f32),
    (Named.named κ "g2" 0x3EBB9DB9#32 : Ideal .f32), (Named.named κ "g3" 0x3F1B1EB1#32 : Ideal .f32)]

/-- Stores are read back as `G` where the last `n` of them are pieces of `G` that cover the index. -/
theorem canon_of_last {s : Shape} {φ : EltTy} (G : Vec Ideal s φ) (y : s.Idx) (n : Nat)
    (L : List (View.Piece (Elt Ideal) s φ)) (hL : ∀ q ∈ L.take n, ∀ x : q.1.shape.Idx, q.2 x = G (q.1.emb x))
    (hy : ∃ q ∈ L.take n, y ∈ q.1.set) : View.canon L y = G y := by
  rw [← List.take_append_drop n L]
  exact View.canon_append_of_pieces G _ _ hL y hy

section Points

variable (c : Dev nD) (i : grid0.Coords)
  (arg2 : Memref sig .tc .vmem S16x128x256 .bf16) (harg2 : arg2.IsWhole)
  (arg3 : Memref sig .tc .vmem S16x128x256 .bf16) (harg3 : arg3.IsWhole)
  (arg4 : Memref sig .tc .vmem S16x128x512 .bf16) (harg4 : arg4.IsWhole)
  (arg5 : Memref sig .tc .vmem S16x128x512 .bf16) (harg5 : arg5.IsWhole)
  (arg6 : Memref sig .tc .vmem S256x256 .bf16) (harg6 : arg6.IsWhole)
  (arg7 : Memref sig .tc .vmem S128x256 .f32) (harg7 : arg7.IsWhole)
  (arg8 : Memref sig .tc .vmem S128x256 .f32) (harg8 : arg8.IsWhole)
  (arg9 : Memref sig .tc .vmem S4x128x128 .f32) (harg9 : arg9.IsWhole)
  (arg10 : Memref sig .tc .vmem S4x128x128 .f32) (harg10 : arg10.IsWhole)
  (arg11 : Memref sig .tc .vmem S4x128x128 .f32) (harg11 : arg11.IsWhole)
  (arg12 : Memref sig .tc .vmem S16x128x512 .bf16) (harg12 : arg12.IsWhole)
  (arg13 : Memref sig .tc .vmem S16x4x128x128 .f32) (harg13 : arg13.IsWhole)
  (x0 x1 : Vec Ideal S16x128x256 .bf16) (x2 x3 : Vec Ideal S16x128x512 .bf16) (x4 : Vec Ideal S256x256 .bf16)
  (x5 x6 : Vec Ideal S128x256 .f32) (x7 x8 x9 : Vec Ideal S4x128x128 .f32) (xs : Vec Ideal S16x4x128x128 .f32)

/-- A point after the first stores the heads' values from the state it finds. -/
theorem stored_B (hc0 : ¬cond0_0 i) :
    out0_B_10 c i arg2 harg2 arg3 harg3 arg4 harg4 arg5 harg5 arg6 harg6 arg7 harg7 arg8 harg8 arg9 harg9 arg10 harg10
        arg11 harg11 arg12 harg12 arg13 harg13 hc0 x0 x1 x2 x3 x4 x5 x6 x7 x8 x9 xs
      = storedBlock x0 x1 x2 x3 x4 x5 x6 x7 x8 xs := by
  unfold out0_B_10
  rw [View.read_writes_junk_eq_canon]
  funext y
  refine View.canon_apply_of_pieces (storedBlock x0 x1 x2 x3 x4 x5 x6 x7 x8 xs) _ ?_ y
    (cover0_B_10 (F := Ideal) c i arg2 harg2 arg3 harg3 arg4 harg4 arg5 harg5 arg6 harg6 arg7 harg7 arg8 harg8 arg9 harg9 arg10 harg10
        arg11 harg11 arg12 harg12 arg13 harg13 hc0 x0 x1 x2 x3 x4 x5 x6 x7 x8 x9 xs y)
  iterate 64 refine List.forall_mem_cons.2 ⟨stored_piece harg2 harg3 harg4 harg5 harg6 harg7 harg8 harg9 harg10 x0 x1 x2 x3 x4
    x5 x6 x7 x8 xs _ (by decide) _ (by decide) (by decide) (by decide) _ (by decide) (by decide) (by decide)
      (load4 harg13 xs _ _ (by decide)), ?_⟩
  exact fun _ h => absurd h List.not_mem_nil

/-- A point after the first carries the state it finds on. -/
theorem carried_B (hc0 : ¬cond0_0 i) :
    sout0_B_0 c i arg2 harg2 arg3 harg3 arg4 harg4 arg5 harg5 arg6 harg6 arg7 harg7 arg8 harg8 arg9 harg9 arg10 harg10
        arg11 harg11 arg12 harg12 arg13 harg13 hc0 x0 x1 x2 x3 x4 x5 x6 x7 x8 x9 xs
      = carriedBlock x1 x2 x4 x5 x6 x9 xs decays := by
  unfold sout0_B_0
  rw [View.read_writes_junk_eq_canon]
  funext y
  refine View.canon_apply_of_pieces (carriedBlock x1 x2 x4 x5 x6 x9 xs decays) _ ?_ y
    (scover0_B_0 (F := Ideal) c i arg2 harg2 arg3 harg3 arg4 harg4 arg5 harg5 arg6 harg6 arg7 harg7 arg8 harg8 arg9 harg9 arg10 harg10
        arg11 harg11 arg12 harg12 arg13 harg13 hc0 x0 x1 x2 x3 x4 x5 x6 x7 x8 x9 xs y)
  iterate 64 refine List.forall_mem_cons.2 ⟨carried_piece harg3 harg4 harg6 harg7 harg8 harg11 x1 x2 x4 x5 x6 x9 xs decays
    _ (by decide) (by decide) (by decide) (by decide) (by decide) (by decide) _ _ (by decide) (by decide) rfl
      (load4 harg13 xs _ _ (by decide)), ?_⟩
  exact fun _ h => absurd h List.not_mem_nil

/-- The first point clears the state before it reads it. -/
theorem cleared (b h : Nat) (is : ∀ d, (![b, h, 0, 0] : Fin 4 → Nat) d + S1x1x128x128.size d ≤ S16x4x128x128.size d)
    (hb : b < 16) (hh : h < 4) (d e : Fin 128) :
    (arg13.view.readCov kernelRun0_A.sl.HS0_1 (Rect.unit (s := S16x4x128x128) ![b, h, 0, 0] S1x1x128x128.size is).toLoadRect :
        Vec Ideal S1x1x128x128 .f32) (ix4 0 0 d e)
      = (0 : Vec Ideal S16x4x128x128 .f32) (ix4 ⟨b, hb⟩ ⟨h, hh⟩ d e) := by
  rw [View.readCov_eq_canon']
  refine View.canon_apply_of_pieces (0 : Vec Ideal S16x4x128x128 .f32) kernelRun0_A.sl.HS0_1 ?_ _
    (View.cover_of_wholeMem _ (by sl_whole_mem) _)
  refine List.forall_mem_cons.2 ⟨fun x => ?_, fun _ h => absurd h List.not_mem_nil⟩
  exact Ideal.ofBits_zero FTy.f32

/-- The first point stores the heads' values from the zero state. -/
theorem stored_A (hc0 : cond0_0 i) :
    out0_A_10 c i arg2 harg2 arg3 harg3 arg4 harg4 arg5 harg5 arg6 harg6 arg7 harg7 arg8 harg8 arg9 harg9 arg10 harg10
        arg11 harg11 arg12 harg12 arg13 harg13 hc0 x0 x1 x2 x3 x4 x5 x6 x7 x8 x9
      = storedBlock x0 x1 x2 x3 x4 x5 x6 x7 x8 0 := by
  unfold out0_A_10
  rw [View.read_writes_junk_eq_canon]
  funext y
  refine View.canon_apply_of_pieces (storedBlock x0 x1 x2 x3 x4 x5 x6 x7 x8 0) _ ?_ y
    (cover0_A_10 (F := Ideal) c i arg2 harg2 arg3 harg3 arg4 harg4 arg5 harg5 arg6 harg6 arg7 harg7 arg8 harg8 arg9 harg9 arg10 harg10
        arg11 harg11 arg12 harg12 arg13 harg13 hc0 x0 x1 x2 x3 x4 x5 x6 x7 x8 x9 y)
  iterate 64 refine List.forall_mem_cons.2 ⟨stored_piece harg2 harg3 harg4 harg5 harg6 harg7 harg8 harg9 harg10 x0 x1 x2 x3 x4
    x5 x6 x7 x8 0 _ (by decide) _ (by decide) (by decide) (by decide) _ (by decide) (by decide) (by decide)
      (cleared arg13 _ _ (by decide) (by decide) (by decide)), ?_⟩
  exact fun _ h => absurd h List.not_mem_nil

/-- The first point carries the zero state on. -/
theorem carried_A (hc0 : cond0_0 i) :
    sout0_A_0 c i arg2 harg2 arg3 harg3 arg4 harg4 arg5 harg5 arg6 harg6 arg7 harg7 arg8 harg8 arg9 harg9 arg10 harg10
        arg11 harg11 arg12 harg12 arg13 harg13 hc0 x0 x1 x2 x3 x4 x5 x6 x7 x8 x9
      = carriedBlock x1 x2 x4 x5 x6 x9 0 decays := by
  unfold sout0_A_0
  rw [View.read_writes_junk_eq_canon]
  funext y
  refine canon_of_last (carriedBlock x1 x2 x4 x5 x6 x9 0 decays) y 64 _ ?_
    (View.cover_of_tiledL (List.take 64 (kernelRun0_A (F := Ideal) c i arg2 harg2 arg3 harg3 arg4 harg4 arg5 harg5 arg6 harg6 arg7 harg7 arg8 harg8 arg9 harg9 arg10 harg10
        arg11 harg11 arg12 harg12 arg13 harg13 hc0 x0 x1 x2 x3 x4 x5 x6 x7 x8 x9).2.1)
      S1x1x128x128.size (by sl_kernel_rfl) y)
  iterate 64 refine List.forall_mem_cons.2 ⟨carried_piece harg3 harg4 harg6 harg7 harg8 harg11 x1 x2 x4 x5 x6 x9 0 decays
    _ (by decide) (by decide) (by decide) (by decide) (by decide) (by decide) _ _ (by decide) (by decide) rfl
      (cleared arg13 _ _ (by decide) (by decide) (by decide)), ?_⟩
  exact fun _ h => absurd h List.not_mem_nil

end Points

end Cert.KernelIdeal.Sum
-- ==== Proof.Ref.lean ====
/-
  The reference, read at an index: turned queries and keys, decayed scores, the states before each chunk.
-/
module

public import proofs.«01_k».proof.Proof.Gen.ReferenceIdeal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.Sum

open Cert.ReferenceIdeal Cert.ReferenceIdeal.Read

/-- A head's entries turned by the angles with these cosines and sines: the halves are the two coordinates. -/
def rotary (z : Fin 64 → EReal) (cs sn : Fin 32 → EReal) (d : Fin 64) : EReal :=
  if h : d.val < 32 then z d * cs ⟨d.val, h⟩ - z ⟨32 + d.val, by omega⟩ * sn ⟨d.val, h⟩
  else z ⟨d.val - 32, by omega⟩ * sn ⟨d.val - 32, by omega⟩ + z d * cs ⟨d.val - 32, by omega⟩

/-- Position `i` of chunk `n`. -/
def pos (n : Fin 16) (i : Fin 128) : Fin 2048 := ⟨128 * n.val + i.val, by omega⟩

variable (x0 : Vec Ideal S16x2048x3584 .bf16)

/-- The turned query of head `h` at position `s`. -/
def query (b : Fin 16) (s : Fin 2048) (h : Fin 4) (d : Fin 64) : EReal :=
  rotary (fun d => x0 (ix3 b s ⟨64 * h.val + d.val, by omega⟩)) (fun j => val_main_v29 (F := Ideal) (ix2 s j))
    (fun j => val_main_v31 (F := Ideal) (ix2 s j)) d

/-- The turned key of head `h` at position `s`, scaled. -/
def key (b : Fin 16) (s : Fin 2048) (h : Fin 4) (d : Fin 64) : EReal :=
  rotary (fun d => x0 (ix3 b s ⟨256 + 64 * h.val + d.val, by omega⟩)) (fun j => val_main_v29 (F := Ideal) (ix2 s j))
    (fun j => val_main_v31 (F := Ideal) (ix2 s j)) d * Ideal.ofBits .f32 0x3E000000#32

/-- The value of head `h` at position `s`. -/
def value (b : Fin 16) (s : Fin 2048) (h : Fin 4) (e : Fin 128) : EReal := x0 (ix3 b s ⟨512 + 128 * h.val + e.val, by omega⟩)

theorem v45_apply (b : Fin 16) (s : Fin 2048) (h : Fin 4) (d : Fin 64) :
    val_main_v45 (F := Ideal) x0 (ix4 b s h d) = query x0 b s h d := by
  have h6 : ∀ d : Fin 64, val_main_v6 (F := Ideal) x0 (ix4 b s h d) = x0 (ix3 b s ⟨64 * h.val + d.val, by omega⟩) := by
    intro d
    pointwise [val_main_v6, val_main_v2, val_main_v1, val_main_v0]
    exact congrArg (fun k => x0 (ix3 b s k)) (Fin.ext (by simp only; omega))
  have h39 : ∀ j : Fin 32, val_main_v39 (F := Ideal) x0 (ix4 b s h j)
      = x0 (ix3 b s ⟨64 * h.val + j.val, by omega⟩) * val_main_v29 (F := Ideal) (ix2 s j)
        - x0 (ix3 b s ⟨64 * h.val + (32 + j.val), by omega⟩) * val_main_v31 (F := Ideal) (ix2 s j) := by
    intro j
    pointwise [val_main_v39, val_main_v38, val_main_v37, val_main_v36, val_main_v35, val_main_v34, val_main_v33, val_main_v32,
      val_main_v30, h6]
  have h44 : ∀ j : Fin 32, val_main_v44 (F := Ideal) x0 (ix4 b s h j)
      = x0 (ix3 b s ⟨64 * h.val + j.val, by omega⟩) * val_main_v31 (F := Ideal) (ix2 s j)
        + x0 (ix3 b s ⟨64 * h.val + (32 + j.val), by omega⟩) * val_main_v29 (F := Ideal) (ix2 s j) := by
    intro j
    pointwise [val_main_v44, val_main_v43, val_main_v42, val_main_v41, val_main_v40, val_main_v34, val_main_v33, val_main_v32,
      val_main_v30, h6]
  pointwise [val_main_v45, h39, h44, query, rotary]
  by_cases hd : d.val < 32
  · rw [dif_pos hd, dif_pos hd]
  · rw [dif_neg hd, dif_neg hd,
      show (⟨64 * h.val + (32 + (d.val - 32)), by omega⟩ : Fin 3584) = ⟨64 * h.val + d.val, by omega⟩ from
        Fin.ext (by simp only; omega)]

theorem v76_apply (b : Fin 16) (s : Fin 2048) (h : Fin 4) (d : Fin 64) :
    val_main_v76 (F := Ideal) x0 (ix4 b s h d) = key x0 b s h d := by
  have h7 : ∀ d : Fin 64, val_main_v7 (F := Ideal) x0 (ix4 b s h d) = x0 (ix3 b s ⟨256 + 64 * h.val + d.val, by omega⟩) := by
    intro d
    pointwise [val_main_v7, val_main_v3, val_main_v1, val_main_v0]
    exact congrArg (fun k => x0 (ix3 b s k)) (Fin.ext (by simp only; omega))
  have h29 : val_main_v58 (F := Ideal) = val_main_v29 := rfl
  have h31 : val_main_v60 (F := Ideal) = val_main_v31 := rfl
  have h68 : ∀ j : Fin 32, val_main_v68 (F := Ideal) x0 (ix4 b s h j)
      = x0 (ix3 b s ⟨256 + 64 * h.val + j.val, by omega⟩) * val_main_v29 (F := Ideal) (ix2 s j)
        - x0 (ix3 b s ⟨256 + 64 * h.val + (32 + j.val), by omega⟩) * val_main_v31 (F := Ideal) (ix2 s j) := by
    intro j
    pointwise [val_main_v68, val_main_v67, val_main_v66, val_main_v65, val_main_v64, val_main_v63, val_main_v62, val_main_v61,
      val_main_v59, h29, h31, h7]
  have h73 : ∀ j : Fin 32, val_main_v73 (F := Ideal) x0 (ix4 b s h j)
      = x0 (ix3 b s ⟨256 + 64 * h.val + j.val, by omega⟩) * val_main_v31 (F := Ideal) (ix2 s j)
        + x0 (ix3 b s ⟨256 + 64 * h.val + (32 + j.val), by omega⟩) * val_main_v29 (F := Ideal) (ix2 s j) := by
    intro j
    pointwise [val_main_v73, val_main_v72, val_main_v71, val_main_v70, val_main_v69, val_main_v63, val_main_v62, val_main_v61,
      val_main_v59, h29, h31, h7]
  pointwise [val_main_v76, val_main_v75, val_main_cst_6, val_main_v74, h68, h73, key, rotary]
  by_cases hd : d.val < 32
  · rw [dif_pos hd, dif_pos hd]
  · rw [dif_neg hd, dif_neg hd,
      show (⟨256 + 64 * h.val + (32 + (d.val - 32)), by omega⟩ : Fin 3584) = ⟨256 + 64 * h.val + d.val, by omega⟩ from
        Fin.ext (by simp only; omega)]

/-- Rows cut into chunks of 128, heads first. -/
theorem chunked (z : Vec Ideal S16x2048x4x64 .f32) (hz : S16x2048x4x64.ShapeCasts S16x16x128x4x64)
    (ht : S16x16x128x4x64.Transposes [0, 3, 1, 2, 4] S16x4x16x128x64) (b : Fin 16) (h : Fin 4) (n : Fin 16) (i : Fin 128) (d : Fin 64) :
    transpose S16x4x16x128x64 [0, 3, 1, 2, 4] (shapeCast S16x16x128x4x64 z hz) ht (ix5 b h n i d) = z (ix4 b (pos n i) h d) := by
  pointwise
  exact congrArg (fun k => z (ix4 b k h d)) (Fin.ext (by simp only [pos]; omega))

theorem v78_apply (b : Fin 16) (h : Fin 4) (n : Fin 16) (i : Fin 128) (d : Fin 64) :
    val_main_v78 (F := Ideal) x0 (ix5 b h n i d) = query x0 b (pos n i) h d := by
  rw [val_main_v78, val_main_v77]
  exact (chunked _ _ _ b h n i d).trans (v45_apply x0 b _ h d)

theorem v80_apply (b : Fin 16) (h : Fin 4) (n : Fin 16) (i : Fin 128) (d : Fin 64) :
    val_main_v80 (F := Ideal) x0 (ix5 b h n i d) = key x0 b (pos n i) h d := by
  rw [val_main_v80, val_main_v79]
  exact (chunked _ _ _ b h n i d).trans (v76_apply x0 b _ h d)

theorem v82_apply (b : Fin 16) (h : Fin 4) (n : Fin 16) (i e : Fin 128) :
    val_main_v82 (F := Ideal) x0 (ix5 b h n i e) = value x0 b (pos n i) h e := by
  pointwise [val_main_v82, val_main_v81, val_main_v8, val_main_v4, val_main_v1, val_main_v0]
  exact congrArg₂ (fun s k => x0 (ix3 b s k)) (Fin.ext (by simp only [pos]; omega)) (Fin.ext (by simp only; omega))

end Cert.ReferenceIdeal.Sum
-- ==== Proof.Tables.lean ====
/-
  The tables the kernel's run is given, in terms of the reference's own.
-/
module

public import proofs.«01_k».proof.Proof.Points
public import proofs.«01_k».proof.Proof.Gen.KernelIdeal.Value
public import proofs.«01_k».proof.Proof.Ref

@[expose] public section

set_option maxRecDepth 65536

noncomputable section

open Idealize.ShloMosaic Idealize.ShloMosaic.TcCoe Idealize.SL.Sem

namespace Cert.KernelIdeal.Sum

open Cert.KernelIdeal Cert.KernelIdeal.Gen
open Cert.ReferenceIdeal.Sum (pos)

variable (m : (ℓ : Loc nD τ sig) → Buf (Elt Ideal) ℓ)

/-- A table of the reference with its 32 columns repeated for the halves of four heads. -/
def tiled (z : FVec Ideal S2048x32 .f32) : FVec Ideal S2048x256 .f32 :=
  shapeCast S2048x256 (broadcastInDim S1x2048x8x32 ![0, 1, 2, 3] bcast_S1x2048x1x32_S1x2048x8x32_0_1_2_3
    (shapeCast S1x2048x1x32 z shapeCasts_S2048x32_S1x2048x1x32)) shapeCasts_S1x2048x8x32_S2048x256

/-- A decay of a position repeated along the lanes. -/
def laned (z : FVec Ideal S4x128 .f32) : FVec Ideal S4x128x128 .f32 :=
  mulf (broadcastInDim S4x128x128 ![0, 1, 2] bcast_S4x128x1_S4x128x128_0_1_2 (broadcastInDim S4x128x1 ![0, 1] bcast_S4x128_S4x128x1_0_1 z))
    (broadcastInDim S4x128x128 ![0, 1, 2] bcast_S1x1x128_S4x128x128_0_1_2
      (broadcastInDim S1x1x128 ![] bcast_S_S1x1x128 (constant (F := Ideal) S_ .f32 0x3F800000#32)))

/-- A whole number everywhere. -/
def whole (n : BitVec 32) : IVec S256x256 32 := broadcastInDim S256x256 ![] bcast_S_S256x256 (constantI S_ 32 n)

/-- Whether a column is in the first half of its head. -/
def firsts : IVec S256x256 1 := cmpi .slt (Host.remsi (iotaInDim S256x256 32 1) (whole 64#32)) (whole 32#32)

/-- The row a column takes its other half from. -/
def sources : IVec S256x256 32 :=
  select (firsts) (addi (iotaInDim S256x256 32 1) (whole 32#32)) (subi (iotaInDim S256x256 32 1) (whole 32#32))

/-- The signed exchange of halves. -/
def exchange : FVec Ideal S256x256 .bf16 :=
  truncf .bf16 (select (cmpi .eq (iotaInDim S256x256 32 0) sources)
    (select firsts (broadcastInDim S256x256 ![] bcast_S_S256x256 (constant (F := Ideal) S_ .f32 0xBF800000#32))
      (broadcastInDim S256x256 ![] bcast_S_S256x256 (constant (F := Ideal) S_ .f32 0x3F800000#32)))
    (broadcastInDim S256x256 ![] bcast_S_S256x256 (constant (F := Ideal) S_ .f32 0x00000000#32))) bitsLt_bf16_f32

theorem V_v24 (c : Dev nD) : (V m c main_v24 : Vec Ideal S4x128x128 .f32) = ReferenceIdeal.Read.val_main_v99 (F := Ideal) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem V_v57 (c : Dev nD) : (V m c main_v57 : Vec Ideal S2048x256 .f32) = tiled (ReferenceIdeal.Read.val_main_v29 (F := Ideal)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem V_v61 (c : Dev nD) : (V m c main_v61 : Vec Ideal S2048x256 .f32) = tiled (ReferenceIdeal.Read.val_main_v31 (F := Ideal)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem V_v80 (c : Dev nD) : (V m c main_v80 : Vec Ideal S4x128x128 .f32) = laned (ReferenceIdeal.Read.val_main_v120 (F := Ideal)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem V_v84 (c : Dev nD) : (V m c main_v84 : Vec Ideal S4x128x128 .f32) = laned (ReferenceIdeal.Read.val_main_v112 (F := Ideal)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem V_v76 (c : Dev nD) : (V m c main_v76 : Vec Ideal S256x256 .bf16) = exchange := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem tiled_apply (z : FVec Ideal S2048x32 .f32) (s : Fin 2048) (j : Fin 256) :
    tiled z (ix2 s j) = z (ix2 s ⟨j.val % 32, by omega⟩) := by
  pointwise [tiled]

theorem laned_apply (z : FVec Ideal S4x128 .f32) (h : Fin 4) (i j : Fin 128) : laned z (ix3 h i j) = z (ix2 h i) := by
  pointwise [laned]

theorem firsts_apply (k j : Fin 256) : firsts (ix2 k j) = if j.val % 64 < 32 then 1#1 else 0#1 := by
  pointwise [firsts, whole]
  clear k
  revert j
  decide +kernel

/-- The column a column's other half lies in. -/
def source (j : Fin 256) : ℕ := if j.val % 64 < 32 then j.val + 32 else j.val - 32

theorem sources_apply (k j : Fin 256) : sources (ix2 k j) = BitVec.ofNat 32 (source j) := by
  pointwise [sources, whole, firsts_apply]
  clear k
  revert j
  decide +kernel

theorem exchange_apply (k j : Fin 256) : exchange (ix2 k j)
    = if k.val = source j then (if j.val % 64 < 32 then -1 else 1) else 0 := by
  have hk : BitVec.ofNat 32 k.val = BitVec.ofNat 32 (source j) ↔ k.val = source j := by
    have hs : source j < 2 ^ 32 := by unfold source; split_ifs <;> omega
    rw [← BitVec.toNat_inj, BitVec.toNat_ofNat, BitVec.toNat_ofNat, Nat.mod_eq_of_lt (by omega), Nat.mod_eq_of_lt hs]
  have hn : Ideal.ofBits .f32 0xBF800000#32 = -1 := by
    rw [show (-1 : EReal) = ((-(1 : ℝ) : ℝ) : EReal) by rw [EReal.coe_neg, EReal.coe_one]]
    simp [Ideal.ofBits, Ideal.ieee, -EReal.coe_mul, -EReal.coe_neg]; norm_num
  have hc : IntOp.cmpi .eq (BitVec.ofNat 32 k.val) (BitVec.ofNat 32 (source j)) = if k.val = source j then 1#1 else 0#1 := by
    have hb : (BitVec.ofNat 32 k.val == BitVec.ofNat 32 (source j)) = decide (k.val = source j) := by
      rw [Bool.eq_iff_iff, beq_iff_eq, decide_eq_true_iff]
      exact hk
    simp only [IntOp.cmpi, hb]
    by_cases h : k.val = source j <;> simp [h]
  pointwise [exchange, sources_apply, firsts_apply]
  rw [hc, hn]
  split_ifs <;> rfl

end Cert.KernelIdeal.Sum
-- ==== Proof.Decays.lean ====
/-
  The state's decay over a chunk: the kernel's four constants are the reference's powers.
-/
module

public import proofs.«01_k».proof.Proof.Points
public import proofs.«01_k».proof.Proof.Ref

@[expose] public section

set_option maxRecDepth 65536

noncomputable section

open Idealize.ShloMosaic Idealize.ShloMosaic.TcCoe Idealize.SL.Sem

namespace Cert.KernelIdeal.Sum

open Cert.KernelIdeal Cert.KernelIdeal.Gen

/-- What a head keeps of the state over a chunk of 128 positions. -/
def keep (h : ℕ) : ℝ := (1 - 1 / 2 ^ (5 + h)) ^ 128

theorem log_pow (a : ℝ) (ha : 0 < a) : Ideal.exp (Ideal.log ((a : ℝ) : EReal) * ((128 : ℝ) : EReal)) = ((a ^ 128 : ℝ) : EReal) := by
  have h : Ideal.log ((a : ℝ) : EReal) = ((Real.log a : ℝ) : EReal) := if_neg (not_le.mpr ha)
  rw [h, ← EReal.coe_mul]
  refine congrArg (fun r : ℝ => (r : EReal)) ?_
  rw [← Real.rpow_def_of_pos ha, ← Real.rpow_natCast]
  norm_num

theorem v127_apply (h : Fin 4) : ReferenceIdeal.Read.val_main_v127 (F := Ideal) (ix1 h) = ((keep h.val : ℝ) : EReal) := by
  have h5 : Ideal.ofBits .f32 0xC0A00000#32 = ((-5 : ℝ) : EReal) := by
    simp [Ideal.ofBits, Ideal.ieee, -EReal.coe_mul, -EReal.coe_neg]; norm_num
  have h2 : Ideal.ofBits .f32 0x40000000#32 = ((2 : ℝ) : EReal) := by
    simp [Ideal.ofBits, Ideal.ieee, -EReal.coe_mul, -EReal.coe_neg]; norm_num
  have h128 : Ideal.ofBits .f32 0x43000000#32 = ((128 : ℝ) : EReal) := by
    simp [Ideal.ofBits, Ideal.ieee, -EReal.coe_mul, -EReal.coe_neg]; norm_num
  have ht : ∀ h : Fin 4, (BitVec.ofNat 32 h.val).toInt = (h.val : ℤ) := by decide
  have hs : (FloatOps.sitofp .f32 (BitVec.ofNat 32 h.val) : Ideal .f32) = ((h.val : ℝ) : EReal) :=
    congrArg (fun r : ℝ => (r : EReal)) ((congrArg (fun z : ℤ => (z : ℝ)) (ht h)).trans (Int.cast_natCast _))
  have hp : Ideal.pow ((2 : ℝ) : EReal) (((-5 : ℝ) : EReal) - ((h.val : ℝ) : EReal)) = ((1 / 2 ^ (5 + h.val) : ℝ) : EReal) := by
    rw [← EReal.coe_sub]
    refine congrArg (fun r : ℝ => (r : EReal)) ?_
    show (2 : ℝ) ^ (-5 - (h.val : ℝ)) = _
    rw [show (-5 - (h.val : ℝ)) = -((5 + h.val : ℕ) : ℝ) by push_cast; ring, Real.rpow_neg (by norm_num), Real.rpow_natCast, one_div]
  have hk : (1 : EReal) - ((1 / 2 ^ (5 + h.val) : ℝ) : EReal) = ((1 - 1 / 2 ^ (5 + h.val) : ℝ) : EReal) := by
    rw [EReal.coe_sub, EReal.coe_one]
  pointwise [ReferenceIdeal.Read.val_main_v127, ReferenceIdeal.Read.val_main_v126, ReferenceIdeal.Read.val_main_v125,
    ReferenceIdeal.Read.val_main_cst_12, ReferenceIdeal.Read.val_main_v16, ReferenceIdeal.Read.val_main_v15,
    ReferenceIdeal.Read.val_main_v14, ReferenceIdeal.Read.val_main_cst_1, ReferenceIdeal.Read.val_main_v13,
    ReferenceIdeal.Read.val_main_v12, ReferenceIdeal.Read.val_main_cst_0, ReferenceIdeal.Read.val_main_v11,
    ReferenceIdeal.Read.val_main_v10, ReferenceIdeal.Read.val_main_cst, ReferenceIdeal.Read.val_main_v9, h5, h2, h128]
  rw [hs, hp, hk]
  refine log_pow _ (sub_pos.mpr ?_)
  rw [div_lt_one (by positivity)]
  exact one_lt_pow₀ one_lt_two (by omega)

theorem named_keep (name : String) (b : BitVec (FTy.bits .f32)) (h : ℕ) (hκ : κ name = some ((keep h : ℝ) : EReal)) :
    Named.named (F := Ideal) (φ := .f32) κ name b = ((keep h : ℝ) : EReal) := by
  simp [Named.named, hκ]

theorem decays_apply (h : Fin 4) : decays h = ((keep h.val : ℝ) : EReal) := by
  fin_cases h
  · exact named_keep "g0" _ 0 (congrArg some (congrArg (fun r : ℝ => (r : EReal)) (by norm_num [keep])))
  · exact named_keep "g1" _ 1 (congrArg some (congrArg (fun r : ℝ => (r : EReal)) (by norm_num [keep])))
  · exact named_keep "g2" _ 2 (congrArg some (congrArg (fun r : ℝ => (r : EReal)) (by norm_num [keep])))
  · exact named_keep "g3" _ 3 (congrArg some (congrArg (fun r : ℝ => (r : EReal)) (by norm_num [keep])))

end Cert.KernelIdeal.Sum
-- ==== Proof.States.lean ====
/-
  The reference chunk by chunk: what a chunk attends to in itself, what it adds to the state, and the states.
-/
module

public import proofs.«01_k».proof.Proof.Ref
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.Sum

open Cert.ReferenceIdeal Cert.ReferenceIdeal.Read

variable (x0 : Vec Ideal S16x2048x3584 .bf16)

/-- What a chunk attends to in itself: its scores, decayed with the distance, times its values. -/
theorem v104_apply (b : Fin 16) (h : Fin 4) (n : Fin 16) (i e : Fin 128) :
    val_main_v104 (F := Ideal) x0 (ix5 b h n i e)
      = ∑ j : Fin 128, (∑ d : Fin 64, query x0 b (pos n i) h d * key x0 b (pos n j) h d)
          * val_main_v99 (F := Ideal) (ix3 h i j) * value x0 b (pos n j) h e := by
  have h100 : ∀ j : Fin 128, val_main_v100 (F := Ideal) x0 (ix5 b h n i j)
      = ∑ d : Fin 64, query x0 b (pos n i) h d * key x0 b (pos n j) h d := by
    intro j
    pointwise [val_main_v100, v78_apply, v80_apply]
  pointwise [val_main_v104, val_main_v103, val_main_v102, val_main_v101, h100, v82_apply]

/-- What a chunk adds to the state. -/
def added (b : Fin 16) (h : Fin 4) (n : Fin 16) (d : Fin 64) (e : Fin 128) : EReal :=
  ∑ j : Fin 128, key x0 b (pos n j) h d * val_main_v112 (F := Ideal) (ix2 h j) * value x0 b (pos n j) h e

theorem v124_apply (n : Fin 16) (b : Fin 16) (h : Fin 4) (d : Fin 64) (e : Fin 128) :
    val_main_v124 (F := Ideal) x0 (ix5 n b h d e) = added x0 b h n d e := by
  pointwise [val_main_v124, val_main_v123, val_main_v122, val_main_v121, v80_apply, v82_apply, added]

/-- The state before chunk `n`. -/
def state (b : Fin 16) (h : Fin 4) (d : Fin 64) (e : Fin 128) : ℕ → EReal
  | 0 => 0
  | n + 1 => state b h d e n * val_main_v127 (F := Ideal) (ix1 h) + if hn : n < 16 then added x0 b h ⟨n, hn⟩ d e else 0

end Cert.ReferenceIdeal.Sum
-- ==== Proof.Results.lean ====
/-
  The reference's result, read at an index: the chunk's own part, the state's part, the norm and the gate.
-/
module

public import proofs.«01_k».proof.Proof.States
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.Sum

open Cert.ReferenceIdeal Cert.ReferenceIdeal.Read

variable (x0 : Vec Ideal S16x2048x3584 .bf16)

/-- One step of the recurrence, as the loop's body writes it. -/
theorem step (n : ℕ) (hn : n < 16) (v prev : FVec Ideal S16x4x64x128 .f32) (hb : S1x4x1x1.BroadcastsInDim S16x4x64x128 (![0, 1, 2, 3] : Fin 4 → Fin S16x4x64x128.rank))
    (hs : S16x16x4x64x128.Slices ![n, 0, 0, 0, 0] S1x16x4x64x128) (hc : S1x16x4x64x128.ShapeCasts S16x4x64x128)
    (hv : v = addf (mulf prev (broadcastInDim S16x4x64x128 ![0, 1, 2, 3] hb (val_main_v128 (F := Ideal))))
      (shapeCast S16x4x64x128 (extractStridedSlice S1x16x4x64x128 ![n, 0, 0, 0, 0] (val_main_v124 (F := Ideal) x0) hs) hc))
    (hp : ∀ b h d e, prev (ix4 b h d e) = state x0 b h d e n) (b : Fin 16) (h : Fin 4) (d : Fin 64) (e : Fin 128) :
    v (ix4 b h d e) = state x0 b h d e (n + 1) := by
  subst hv
  rw [state, dif_pos hn]
  pointwise [val_main_v128, hp, v124_apply]

/-- The stacked states: at `n`, the state before chunk `n`. -/
theorem v229_apply (n b : Fin 16) (h : Fin 4) (d : Fin 64) (e : Fin 128) :
    val_main_v229 (F := Ideal) x0 (ix5 n b h d e) = state x0 b h d e n.val := by
  have h0 : ∀ b h d e, val_main_v129 (F := Ideal) (ix4 b h d e) = state x0 b h d e 0 := by
    intro b h d e
    pointwise [val_main_v129, val_main_cst_13, state]
  have h1 := step x0 0 (by decide) (val_main_v134 (F := Ideal) x0) _ _ _ _ rfl h0
  have h2 := step x0 1 (by decide) (val_main_v139 (F := Ideal) x0) _ _ _ _ rfl h1
  have h3 := step x0 2 (by decide) (val_main_v144 (F := Ideal) x0) _ _ _ _ rfl h2
  have h4 := step x0 3 (by decide) (val_main_v149 (F := Ideal) x0) _ _ _ _ rfl h3
  have h5 := step x0 4 (by decide) (val_main_v154 (F := Ideal) x0) _ _ _ _ rfl h4
  have h6 := step x0 5 (by decide) (val_main_v159 (F := Ideal) x0) _ _ _ _ rfl h5
  have h7 := step x0 6 (by decide) (val_main_v164 (F := Ideal) x0) _ _ _ _ rfl h6
  have h8 := step x0 7 (by decide) (val_main_v169 (F := Ideal) x0) _ _ _ _ rfl h7
  have h9 := step x0 8 (by decide) (val_main_v174 (F := Ideal) x0) _ _ _ _ rfl h8
  have h10 := step x0 9 (by decide) (val_main_v179 (F := Ideal) x0) _ _ _ _ rfl h9
  have h11 := step x0 10 (by decide) (val_main_v184 (F := Ideal) x0) _ _ _ _ rfl h10
  have h12 := step x0 11 (by decide) (val_main_v189 (F := Ideal) x0) _ _ _ _ rfl h11
  have h13 := step x0 12 (by decide) (val_main_v194 (F := Ideal) x0) _ _ _ _ rfl h12
  have h14 := step x0 13 (by decide) (val_main_v199 (F := Ideal) x0) _ _ _ _ rfl h13
  have h15 := step x0 14 (by decide) (val_main_v204 (F := Ideal) x0) _ _ _ _ rfl h14
  pointwise [val_main_v229, val_main_v228, val_main_v227, val_main_v226, val_main_v225, val_main_v224, val_main_v223,
    val_main_v222, val_main_v221, val_main_v220, val_main_v219, val_main_v218, val_main_v217, val_main_v216,
    val_main_v215, val_main_v214, val_main_v213, h0, h1, h2, h3, h4, h5, h6, h7, h8, h9, h10, h11, h12, h13, h14, h15]
  generalize state x0 b h d e = f
  fin_cases n <;> rfl

/-- The retention of head `h` at position `i` of chunk `n`. -/
def attended (b : Fin 16) (n : Fin 16) (i : Fin 128) (h : Fin 4) (e : Fin 128) : EReal :=
  (∑ j : Fin 128, (∑ d : Fin 64, query x0 b (pos n i) h d * key x0 b (pos n j) h d)
      * val_main_v99 (F := Ideal) (ix3 h i j) * value x0 b (pos n j) h e)
    + ∑ d : Fin 64, query x0 b (pos n i) h d * val_main_v120 (F := Ideal) (ix2 h i) * state x0 b h d e n.val

/-- The product of the queries with the states, at an index. -/
theorem inter (l : FVec Ideal S16x4x16x128x64 .f32) (r : FVec Ideal S16x16x4x64x128 .f32) (b : Fin 16) (h : Fin 4) (n : Fin 16)
    (i e : Fin 128) :
    Host.dotGeneral (F := Ideal) (φ₁ := .f32) (φ₂ := .f32)
      dot_S16x4x16x128x64_S16x16x4x64x128_S16x4x16x128x128_4_3_3_4_012_120 none l r (ix5 b h n i e)
      = ∑ d : Fin 64, l (ix5 b h n i d) * r (ix5 n b h d e) := by
  pointwise

theorem v231_apply (b : Fin 16) (h : Fin 4) (n : Fin 16) (i e : Fin 128) :
    val_main_v231 (F := Ideal) x0 (ix5 b h n i e) = attended x0 b n i h e := by
  have h212 : ∀ d, val_main_v212 (F := Ideal) x0 (ix5 b h n i d)
      = query x0 b (pos n i) h d * val_main_v120 (F := Ideal) (ix2 h i) := by
    intro d
    pointwise [val_main_v212, val_main_v211, val_main_v210, v78_apply]
  rw [val_main_v231_apply, v104_apply, val_main_v230, inter]
  exact congrArg (_ + ·) (Finset.sum_congr rfl fun d _ => congrArg₂ (· * ·) (h212 d) (v229_apply x0 n b h d e))

/-- Chunks of rows put back in a row, heads last. -/
theorem rowed (z : Vec Ideal S16x4x16x128x128 .f32) (ht : S16x4x16x128x128.Transposes [0, 2, 3, 1, 4] S16x16x128x4x128)
    (hz : S16x16x128x4x128.ShapeCasts S16x2048x4x128) (b : Fin 16) (h : Fin 4) (n : Fin 16) (i e : Fin 128) :
    shapeCast S16x2048x4x128 (transpose S16x16x128x4x128 [0, 2, 3, 1, 4] z ht) hz (ix4 b (pos n i) h e) = z (ix5 b h n i e) := by
  pointwise
  exact congrArg₂ (fun n i => z (ix5 b h n i e)) (Fin.ext (by simp only [pos]; omega)) (Fin.ext (by simp only [pos]; omega))

theorem v233_apply (b : Fin 16) (n : Fin 16) (i : Fin 128) (h : Fin 4) (e : Fin 128) :
    val_main_v233 (F := Ideal) x0 (ix4 b (pos n i) h e) = attended x0 b n i h e := by
  rw [val_main_v233, val_main_v232]
  exact (rowed _ _ _ b h n i e).trans (v231_apply x0 b h n i e)

/-- A row over the root of its mean square, as the reference writes it. -/
theorem normed (z : FVec Ideal S16x2048x4x128 .f32) (hr : S16x2048x4x128.ReducesTo [3] S16x2048x4) (hu)
    (hb : S16x2048x4.BroadcastsInDim S16x2048x4x1 (![0, 1, 2] : Fin 3 → Fin S16x2048x4x1.rank))
    (hc hd) (hw : S16x2048x4x1.BroadcastsInDim S16x2048x4x128 (![0, 1, 2, 3] : Fin 4 → Fin S16x2048x4x128.rank))
    (b : Fin 16) (s : Fin 2048) (h : Fin 4) (e : Fin 128) :
    mulf z (broadcastInDim S16x2048x4x128 ![0, 1, 2, 3] hw (Host.rsqrt (addf (Host.divf
      (broadcastInDim S16x2048x4x1 ![0, 1, 2] hb (Host.reduceAdd (mulf z z) (val_main_cst_14 (F := Ideal)) hr hu))
      (broadcastInDim S16x2048x4x1 ![] hc (val_main_cst_15 (F := Ideal))))
      (broadcastInDim S16x2048x4x1 ![] hd (val_main_cst_16 (F := Ideal)))))) (ix4 b s h e)
      = z (ix4 b s h e) * Ideal.rsqrt (Ideal.div (∑ e' : Fin 128, z (ix4 b s h e') * z (ix4 b s h e')) (Ideal.ofBits .f32 0x43000000#32)
          + Ideal.ofBits .f32 0x358637BD#32) := by
  pointwise [val_main_cst_14, val_main_cst_15, val_main_cst_16]

/-- A head's row over the root of its mean square. -/
theorem v243_apply (b : Fin 16) (n : Fin 16) (i : Fin 128) (h : Fin 4) (e : Fin 128) :
    val_main_v243 (F := Ideal) x0 (ix4 b (pos n i) h e) = attended x0 b n i h e
      * Ideal.rsqrt (Ideal.div (∑ e' : Fin 128, attended x0 b n i h e' * attended x0 b n i h e') (Ideal.ofBits .f32 0x43000000#32)
          + Ideal.ofBits .f32 0x358637BD#32) := by
  rw [val_main_v243, val_main_v242, val_main_v241, val_main_v240, val_main_v239, val_main_v238, val_main_v237,
    val_main_v236, val_main_v235, val_main_v234, normed]
  simp only [v233_apply]

/-- The gate of head `h`. -/
def gate (b : Fin 16) (s : Fin 2048) (h : Fin 4) (e : Fin 128) : EReal := x0 (ix3 b s ⟨1024 + 128 * h.val + e.val, by omega⟩)

theorem v245_apply (b : Fin 16) (s : Fin 2048) (h : Fin 4) (e : Fin 128) :
    val_main_v245 (F := Ideal) x0 (ix3 b s (⟨128 * h.val + e.val, by omega⟩ : Fin 512))
      = gate x0 b s h e * Ideal.logistic (gate x0 b s h e) := by
  have h5 : ∀ k : Fin 512, val_main_v5 (F := Ideal) x0 (ix3 b s k) = x0 (ix3 b s ⟨1024 + k.val, by omega⟩) := by
    intro k
    pointwise [val_main_v5, val_main_v1, val_main_v0]
  have hg : gate x0 b s h e = x0 (ix3 b s ⟨1024 + (128 * h.val + e.val), by omega⟩) :=
    congrArg (fun k => x0 (ix3 b s k)) (Fin.ext (by simp only; omega))
  rw [hg]
  pointwise [val_main_v245, val_main_call1_v5, val_main_call1_v4, val_main_call1_v3, val_main_call1_v2, val_main_call1_v1,
    val_main_call1_v0, val_main_call1_cst, val_main_call1_cst_0, h5]
  rfl

theorem v244_apply (b : Fin 16) (s : Fin 2048) (h : Fin 4) (e : Fin 128) :
    val_main_v244 (F := Ideal) x0 (ix3 b s (⟨128 * h.val + e.val, by omega⟩ : Fin 512))
      = val_main_v243 (F := Ideal) x0 (ix4 b s h e) := by
  rw [val_main_v244]
  generalize val_main_v243 (F := Ideal) x0 = z
  pointwise

theorem v246_apply (b : Fin 16) (s : Fin 2048) (k : Fin 512) : val_main_v247 (F := Ideal) x0 (ix3 b s k)
    = val_main_v244 (F := Ideal) x0 (ix3 b s k) * val_main_v245 (F := Ideal) x0 (ix3 b s k) := by
  rw [val_main_v247, val_main_v246]
  generalize val_main_v244 (F := Ideal) x0 = u
  generalize val_main_v245 (F := Ideal) x0 = w
  pointwise

theorem v247_apply (b : Fin 16) (n : Fin 16) (i : Fin 128) (h : Fin 4) (e : Fin 128) :
    val_main_v247 (F := Ideal) x0 (ix3 b (pos n i) (⟨128 * h.val + e.val, by omega⟩ : Fin 512)) = attended x0 b n i h e
      * Ideal.rsqrt (Ideal.div (∑ e' : Fin 128, attended x0 b n i h e' * attended x0 b n i h e') (Ideal.ofBits .f32 0x43000000#32)
          + Ideal.ofBits .f32 0x358637BD#32)
      * (gate x0 b (pos n i) h e * Ideal.logistic (gate x0 b (pos n i) h e)) := by
  rw [v246_apply, v244_apply, v243_apply, v245_apply]

end Cert.ReferenceIdeal.Sum
-- ==== Proof.Heads.lean ====
/-
  One chunk: where its windows hold the reference's rows and tables, the stored values and the state carried on are the
  reference's.
-/
module

public import proofs.«01_k».proof.Proof.Tables
public import proofs.«01_k».proof.Proof.Decays
public import proofs.«01_k».proof.Proof.Results

@[expose] public section

set_option maxRecDepth 65536

noncomputable section

open Idealize.ShloMosaic Idealize.ShloMosaic.TcCoe Idealize.SL.Sem

namespace Cert.KernelIdeal.Sum

open Cert.KernelIdeal Cert.KernelIdeal.Gen
open Cert.ReferenceIdeal.Sum (pos rotary query key value gate state attended added)

/-- Lane `d` of the 64 that head `h` owns among its pair's 128. -/
def half (h : Fin 4) (d : Fin 64) : Fin 128 := ⟨64 * (h.val % 2) + d.val, by omega⟩

theorem half_injective (h : Fin 4) : Function.Injective (half h) := fun a b hab => Fin.ext (by
  have := congrArg Fin.val hab
  simp only [half] at this
  omega)

/-- A sum over the pair's lanes of what is zero on the other head's is the sum over the head's own. -/
theorem sum_half (h : Fin 4) (f : Fin 128 → EReal) (hf : ∀ d : Fin 128, d.val / 64 ≠ h.val % 2 → f d = 0) :
    ∑ d, f d = ∑ d : Fin 64, f (half h d) := by
  refine (Fintype.sum_of_injective (half h) (half_injective h) (fun d => f (half h d)) f (fun d hd => hf d fun hq => hd ?_)
    fun _ => rfl).symm
  exact ⟨⟨d.val % 64, by omega⟩, Fin.ext (by simp only [half]; omega)⟩

theorem source_lt (j : Fin 256) : source j < 256 := by
  unfold source
  split_ifs <;> omega

/-- The product with the signed exchange picks one entry. -/
theorem sum_exchange (f : Fin 256 → EReal) (j : Fin 256) :
    ∑ k : Fin 256, f k * exchange (ix2 k j) = f ⟨source j, source_lt j⟩ * (if j.val % 64 < 32 then -1 else 1) := by
  rw [Finset.sum_eq_single (⟨source j, source_lt j⟩ : Fin 256)]
  · rw [exchange_apply, if_pos rfl]
  · intro k _ hk
    rw [exchange_apply, if_neg fun h => hk (Fin.ext h), mul_zero]
  · exact fun h => absurd (Finset.mem_univ _) h

section Turn

variable {x4 : Vec Ideal S256x256 .bf16} {x5 x6 : Vec Ideal S128x256 .f32} {x : Vec Ideal S16x128x256 .bf16} {b : Fin 16}
  {i : Fin 128} {w : Fin 256 → EReal} {cs sn : Fin 32 → EReal}

/-- An entry turned through the exchange is the reference's turned entry. -/
theorem turnedAt_half (hx : ∀ j, x (ix3 b i j) = w j) (h4 : ∀ k j, x4 (ix2 k j) = exchange (ix2 k j))
    (h5 : ∀ j : Fin 256, x5 (ix2 i j) = cs ⟨j.val % 32, by omega⟩) (h6 : ∀ j : Fin 256, x6 (ix2 i j) = sn ⟨j.val % 32, by omega⟩)
    (h : Fin 4) (d : Fin 64) :
    turnedAt x4 x5 x6 x b i (lane h (half h d)) = rotary (fun d => w ⟨64 * h.val + d.val, by omega⟩) cs sn d := by
  have hl : lane h (half h d) = ⟨64 * h.val + d.val, by omega⟩ := Fin.ext (by simp only [lane, half]; omega)
  unfold turnedAt rotary
  simp only [hx, h4, h5, h6, hl, sum_exchange]
  by_cases hd : d.val < 32
  · have hm : (64 * h.val + d.val) % 64 < 32 := by omega
    have hs : (⟨source ⟨64 * h.val + d.val, by omega⟩, source_lt _⟩ : Fin 256) = ⟨64 * h.val + (32 + d.val), by omega⟩ :=
      Fin.ext (by simp only [source, if_pos hm]; omega)
    have hj : (⟨(64 * h.val + d.val) % 32, by omega⟩ : Fin 32) = ⟨d.val, hd⟩ := Fin.ext (by simp only; omega)
    rw [dif_pos hd, if_pos hm, hs, hj, mul_neg, mul_one, EReal.neg_mul, sub_eq_add_neg]
  · have hm : ¬(64 * h.val + d.val) % 64 < 32 := by omega
    have hs : (⟨source ⟨64 * h.val + d.val, by omega⟩, source_lt _⟩ : Fin 256) = ⟨64 * h.val + (d.val - 32), by omega⟩ :=
      Fin.ext (by simp only [source, if_neg hm]; omega)
    have hj : (⟨(64 * h.val + d.val) % 32, by omega⟩ : Fin 32) = ⟨d.val - 32, by omega⟩ := Fin.ext (by simp only; omega)
    rw [dif_neg hd, if_neg hm, hs, hj, mul_one, add_comm]

end Turn

variable (X : Vec Ideal ReferenceIdeal.S16x2048x3584 .bf16) (n : Fin 16)
  (x0 x1 : Vec Ideal S16x128x256 .bf16) (x2 x3 : Vec Ideal S16x128x512 .bf16) (x4 : Vec Ideal S256x256 .bf16)
  (x5 x6 : Vec Ideal S128x256 .f32) (x7 x8 x9 : Vec Ideal S4x128x128 .f32)

/-- The windows hold chunk `n` of the rows and the reference's tables. -/
structure Staged : Prop where
  queries : ∀ b i (j : Fin 256), x0 (ix3 b i j) = X (ix3 b (pos n i) ⟨j.val, by omega⟩)
  keys : ∀ b i (j : Fin 256), x1 (ix3 b i j) = X (ix3 b (pos n i) ⟨256 + j.val, by omega⟩)
  values : ∀ b i (j : Fin 512), x2 (ix3 b i j) = X (ix3 b (pos n i) ⟨512 + j.val, by omega⟩)
  gates : ∀ b i (j : Fin 512), x3 (ix3 b i j) = X (ix3 b (pos n i) ⟨1024 + j.val, by omega⟩)
  exchange : ∀ k j, x4 (ix2 k j) = exchange (ix2 k j)
  cos : ∀ i (j : Fin 256), x5 (ix2 i j) = ReferenceIdeal.Read.val_main_v29 (F := Ideal) (ix2 (pos n i) ⟨j.val % 32, by omega⟩)
  sin : ∀ i (j : Fin 256), x6 (ix2 i j) = ReferenceIdeal.Read.val_main_v31 (F := Ideal) (ix2 (pos n i) ⟨j.val % 32, by omega⟩)
  decay : ∀ h i j, x7 (ix3 h i j) = ReferenceIdeal.Read.val_main_v99 (F := Ideal) (ix3 h i j)
  queryDecay : ∀ h i d, x8 (ix3 h i d) = ReferenceIdeal.Read.val_main_v120 (F := Ideal) (ix2 h i)
  keyDecay : ∀ h j e, x9 (ix3 h j e) = ReferenceIdeal.Read.val_main_v112 (F := Ideal) (ix2 h j)

variable {X n x0 x1 x2 x3 x4 x5 x6 x7 x8 x9} (S : Staged X n x0 x1 x2 x3 x4 x5 x6 x7 x8 x9)
include S

theorem queryAt_half (b : Fin 16) (h : Fin 4) (i : Fin 128) (d : Fin 64) :
    queryAt x0 x4 x5 x6 b h i (half h d) = query X b (pos n i) h d := by
  unfold queryAt
  rw [if_pos (by simp only [half]; omega)]
  exact turnedAt_half (S.queries b i) S.exchange (S.cos i) (S.sin i) h d

theorem keyAt_half (b : Fin 16) (h : Fin 4) (j : Fin 128) (d : Fin 64) :
    keyAt x1 x4 x5 x6 b h j (half h d) = key X b (pos n j) h d := by
  unfold keyAt key
  rw [turnedAt_half (cs := fun k => ReferenceIdeal.Read.val_main_v29 (F := Ideal) (ix2 (pos n j) k))
    (sn := fun k => ReferenceIdeal.Read.val_main_v31 (F := Ideal) (ix2 (pos n j) k)) (S.keys b j) S.exchange (S.cos j) (S.sin j) h d]
  exact congrArg (fun z => rotary z _ _ d * _) (funext fun d => congrArg (fun k => X (ix3 b (pos n j) k))
    (Fin.ext (by simp only; omega)))

theorem queryAt_other (b : Fin 16) (h : Fin 4) (i d : Fin 128) (hd : d.val / 64 ≠ h.val % 2) :
    queryAt x0 x4 x5 x6 b h i d = 0 := if_neg hd

theorem value_eq (b : Fin 16) (h : Fin 4) (j e : Fin 128) : x2 (ix3 b j (column h e)) = value X b (pos n j) h e := by
  rw [S.values]
  exact congrArg (fun k => X (ix3 b (pos n j) k)) (Fin.ext (by simp only [column]; omega))

theorem gate_eq (b : Fin 16) (h : Fin 4) (j e : Fin 128) : x3 (ix3 b j (column h e)) = gate X b (pos n j) h e := by
  rw [S.gates]
  exact congrArg (fun k => X (ix3 b (pos n j) k)) (Fin.ext (by simp only [column]; omega))

/-- The carried state holds the reference's on the lanes a head owns. -/
def Holds (X : Vec Ideal ReferenceIdeal.S16x2048x3584 .bf16) (n : ℕ) (xs : Vec Ideal S16x4x128x128 .f32) : Prop :=
  ∀ b h d e, xs (ix4 b h (half h d) e) = state X b h d e n

theorem retainedAt_eq {xs : Vec Ideal S16x4x128x128 .f32} (hs : Holds X n.val xs) (b : Fin 16) (h : Fin 4) (i e : Fin 128) :
    retainedAt x0 x1 x2 x4 x5 x6 x7 x8 xs b h i e = attended X b n i h e := by
  unfold retainedAt attended
  refine congrArg₂ (· + ·) (Finset.sum_congr rfl fun j _ => ?_) ?_
  · rw [sum_half h _ fun d hd => by rw [queryAt_other S b h i d hd, zero_mul], S.decay, value_eq S]
    simp only [queryAt_half S, keyAt_half S]
  · rw [sum_half h _ fun d hd => by rw [queryAt_other S b h i d hd, zero_mul, zero_mul]]
    simp only [queryAt_half S, S.queryDecay, hs b h _ e]

theorem storedAt_eq {xs : Vec Ideal S16x4x128x128 .f32} (hs : Holds X n.val xs) (b : Fin 16) (h : Fin 4) (i e : Fin 128) :
    storedAt x0 x1 x2 x3 x4 x5 x6 x7 x8 xs b h i e
      = ReferenceIdeal.Read.val_main_v247 (F := Ideal) X (ix3 b (pos n i) (⟨128 * h.val + e.val, by omega⟩ : Fin 512)) := by
  unfold storedAt gated
  rw [ReferenceIdeal.Sum.v247_apply, gate_eq S]
  simp only [retainedAt_eq S hs]

theorem carriedBlock_holds {xs : Vec Ideal S16x4x128x128 .f32} (hs : Holds X n.val xs) :
    Holds X (n.val + 1) (carriedBlock x1 x2 x4 x5 x6 x9 xs decays) := by
  intro b h d e
  show carriedAt x1 x2 x4 x5 x6 x9 xs decays b h (half h d) e = _
  unfold carriedAt
  rw [state, dif_pos n.isLt, hs, decays_apply, v127_apply]
  refine congrArg (_ + ·) (Finset.sum_congr rfl fun j _ => ?_)
  rw [keyAt_half S, value_eq S, S.keyDecay, mul_comm (value X b (pos n j) h e), mul_assoc]

end Cert.KernelIdeal.Sum
-- ==== Proof.Retention.lean ====
/-
  The retention layer over the whole array: the 16 chunks' stored blocks, each from the state the chunks before it left,
  are the reference's result.
-/
module

public import proofs.«01_k».proof.Proof.Heads
public import Idealize.ShloMosaic.Lib.Pipeline.ValueKit.Geometry
public import Idealize.ShloMosaic.Lib.Tactic

@[expose] public section

set_option maxRecDepth 65536

noncomputable section

open Idealize.ShloMosaic Idealize.ShloMosaic.TcCoe Idealize.SL.Sem

namespace Cert.KernelIdeal.Sum

open Cert.KernelIdeal Cert.KernelIdeal.Gen
open Cert.ReferenceIdeal.Sum (pos)

variable (m : (ℓ : Loc nD τ sig) → Buf (Elt Ideal) ℓ)

theorem index0 : ∀ t : Fin cfg0.N, win0_0.index t = ![0, t.val, 0] :=
  (by decide +kernel : ∀ t : Fin grid0.N, win0_0.index t = ![0, t.val, 0])
theorem index1 : ∀ t : Fin cfg0.N, win0_1.index t = ![0, t.val, 1] :=
  (by decide +kernel : ∀ t : Fin grid0.N, win0_1.index t = ![0, t.val, 1])
theorem index2 : ∀ t : Fin cfg0.N, win0_2.index t = ![0, t.val, 1] :=
  (by decide +kernel : ∀ t : Fin grid0.N, win0_2.index t = ![0, t.val, 1])
theorem index3 : ∀ t : Fin cfg0.N, win0_3.index t = ![0, t.val, 2] :=
  (by decide +kernel : ∀ t : Fin grid0.N, win0_3.index t = ![0, t.val, 2])
theorem index4 : ∀ t : Fin cfg0.N, win0_4.index t = ![0, 0] :=
  (by decide +kernel : ∀ t : Fin grid0.N, win0_4.index t = ![0, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])
theorem index7 : ∀ t : Fin cfg0.N, win0_7.index t = ![0, 0, 0] :=
  (by decide +kernel : ∀ t : Fin grid0.N, win0_7.index t = ![0, 0, 0])
theorem index8 : ∀ t : Fin cfg0.N, win0_8.index t = ![0, 0, 0] :=
  (by decide +kernel : ∀ t : Fin grid0.N, win0_8.index t = ![0, 0, 0])
theorem index9 : ∀ t : Fin cfg0.N, win0_9.index t = ![0, 0, 0] :=
  (by decide +kernel : ∀ t : Fin grid0.N, win0_9.index t = ![0, 0, 0])
theorem index10 : ∀ t : Fin cfg0.N, win0_10.index t = ![0, t.val, 0] :=
  (by decide +kernel : ∀ t : Fin grid0.N, win0_10.index t = ![0, t.val, 0])

/-- The chunk of a grid point. -/
def chunk (t : Fin cfg0.N) : Fin 16 := ⟨t.val, lt_of_lt_of_eq t.isLt N_0⟩

variable (c : Dev nD) (t : Fin cfg0.N)

theorem block0 (b : Fin 16) (i : Fin 128) (j : Fin 256) : iblk m c 0 t (ix3 b i j)
    = m ((c : Thread nD τ).loc main_arg0) (ix3 b (pos (chunk t) i) ⟨j.val, by omega⟩) := by
  have e : (win0_0.blk t).view.emb (ix3 b i j) = (ix3 b (pos (chunk t) i) ⟨j.val, by omega⟩ : S16x2048x3584.Idx) := by
    blk_ext [index0, chunk, pos]
  unfold iblk
  exact (congrArg (V m c main_arg0) e).trans (congrFun (V_main_arg0 m c) _)

theorem block1 (b : Fin 16) (i : Fin 128) (j : Fin 256) : iblk m c 1 t (ix3 b i j)
    = m ((c : Thread nD τ).loc main_arg0) (ix3 b (pos (chunk t) i) ⟨256 + j.val, by omega⟩) := by
  have e : (win0_1.blk t).view.emb (ix3 b i j) = (ix3 b (pos (chunk t) i) ⟨256 + j.val, by omega⟩ : S16x2048x3584.Idx) := by
    blk_ext [index1, chunk, pos]
  unfold iblk
  exact (congrArg (V m c main_arg0) e).trans (congrFun (V_main_arg0 m c) _)

theorem block2 (b : Fin 16) (i : Fin 128) (j : Fin 512) : iblk m c 2 t (ix3 b i j)
    = m ((c : Thread nD τ).loc main_arg0) (ix3 b (pos (chunk t) i) ⟨512 + j.val, by omega⟩) := by
  have e : (win0_2.blk t).view.emb (ix3 b i j) = (ix3 b (pos (chunk t) i) ⟨512 + j.val, by omega⟩ : S16x2048x3584.Idx) := by
    blk_ext [index2, chunk, pos]
  unfold iblk
  exact (congrArg (V m c main_arg0) e).trans (congrFun (V_main_arg0 m c) _)

theorem block3 (b : Fin 16) (i : Fin 128) (j : Fin 512) : iblk m c 3 t (ix3 b i j)
    = m ((c : Thread nD τ).loc main_arg0) (ix3 b (pos (chunk t) i) ⟨1024 + j.val, by omega⟩) := by
  have e : (win0_3.blk t).view.emb (ix3 b i j) = (ix3 b (pos (chunk t) i) ⟨1024 + j.val, by omega⟩ : S16x2048x3584.Idx) := by
    blk_ext [index3, chunk, pos]
  unfold iblk
  exact (congrArg (V m c main_arg0) e).trans (congrFun (V_main_arg0 m c) _)

theorem block4 (k j : Fin 256) : iblk m c 4 t (ix2 k j)
    = exchange (ix2 k j) := by
  have e : (win0_4.blk t).view.emb (ix2 k j) = (ix2 k j : S256x256.Idx) := by blk_ext [index4, chunk, pos]
  refine Eq.trans (b := V m c main_v76 _) rfl ((congrArg (V m c main_v76) e).trans ((congrFun (V_v76 m c) _).trans ?_))
  rfl

theorem block5 (i : Fin 128) (j : Fin 256) : iblk m c 5 t (ix2 i j)
    = ReferenceIdeal.Read.val_main_v29 (F := Ideal) (ix2 (pos (chunk t) i) ⟨j.val % 32, by omega⟩) := by
  have e : (win0_5.blk t).view.emb (ix2 i j) = (ix2 (pos (chunk t) i) j : S2048x256.Idx) := by blk_ext [index5, chunk, pos]
  refine Eq.trans (b := V m c main_v57 _) rfl ((congrArg (V m c main_v57) e).trans ((congrFun (V_v57 m c) _).trans ?_))
  exact tiled_apply ..

theorem block6 (i : Fin 128) (j : Fin 256) : iblk m c 6 t (ix2 i j)
    = ReferenceIdeal.Read.val_main_v31 (F := Ideal) (ix2 (pos (chunk t) i) ⟨j.val % 32, by omega⟩) := by
  have e : (win0_6.blk t).view.emb (ix2 i j) = (ix2 (pos (chunk t) i) j : S2048x256.Idx) := by blk_ext [index6, chunk, pos]
  refine Eq.trans (b := V m c main_v61 _) rfl ((congrArg (V m c main_v61) e).trans ((congrFun (V_v61 m c) _).trans ?_))
  exact tiled_apply ..

theorem block7 (h : Fin 4) (i j : Fin 128) : iblk m c 7 t (ix3 h i j)
    = ReferenceIdeal.Read.val_main_v99 (F := Ideal) (ix3 h i j) := by
  have e : (win0_7.blk t).view.emb (ix3 h i j) = (ix3 h i j : S4x128x128.Idx) := by blk_ext [index7, chunk, pos]
  refine Eq.trans (b := V m c main_v24 _) rfl ((congrArg (V m c main_v24) e).trans ((congrFun (V_v24 m c) _).trans ?_))
  rfl

theorem block8 (h : Fin 4) (i d : Fin 128) : iblk m c 8 t (ix3 h i d)
    = ReferenceIdeal.Read.val_main_v120 (F := Ideal) (ix2 h i) := by
  have e : (win0_8.blk t).view.emb (ix3 h i d) = (ix3 h i d : S4x128x128.Idx) := by blk_ext [index8, chunk, pos]
  refine Eq.trans (b := V m c main_v80 _) rfl ((congrArg (V m c main_v80) e).trans ((congrFun (V_v80 m c) _).trans ?_))
  exact laned_apply ..

theorem block9 (h : Fin 4) (i d : Fin 128) : iblk m c 9 t (ix3 h i d)
    = ReferenceIdeal.Read.val_main_v112 (F := Ideal) (ix2 h i) := by
  have e : (win0_9.blk t).view.emb (ix3 h i d) = (ix3 h i d : S4x128x128.Idx) := by blk_ext [index9, chunk, pos]
  refine Eq.trans (b := V m c main_v84 _) rfl ((congrArg (V m c main_v84) e).trans ((congrFun (V_v84 m c) _).trans ?_))
  exact laned_apply ..

/-- A point's windows hold its chunk's rows and the tables. -/
theorem staged : Staged (m ((c : Thread nD τ).loc main_arg0)) (chunk t)
    (iblk m c 0 t) (iblk m c 1 t) (iblk m c 2 t) (iblk m c 3 t) (iblk m c 4 t) (iblk m c 5 t) (iblk m c 6 t) (iblk m c 7 t)
    (iblk m c 8 t) (iblk m c 9 t) where
  queries := block0 m c t
  keys := block1 m c t
  values := block2 m c t
  gates := block3 m c t
  exchange := block4 m c t
  cos := block5 m c t
  sin := block6 m c t
  decay := block7 m c t
  queryDecay := block8 m c t
  keyDecay := block9 m c t

theorem holds_zero (X : Vec Ideal ReferenceIdeal.S16x2048x3584 .bf16) : Holds X 0 (0 : Vec Ideal S16x4x128x128 .f32) :=
  fun _ _ _ _ => rfl

/-- After point `k` the carried state is the reference's before chunk `k + 1`. -/
theorem state_holds : ∀ (k : ℕ) (hk : k < cfg0.N),
    Holds (m ((c : Thread nD τ).loc main_arg0)) (k + 1) (outsAt0 m c k hk).2
  | 0, hk => by
    rw [outsAt0_A m c ⟨0, hk⟩ rfl]
    dsimp only
    rw [carried_A]
    exact carriedBlock_holds (staged m c ⟨0, hk⟩) (holds_zero _)
  | k + 1, hk => by
    have h16 : k + 1 < 16 := lt_of_lt_of_eq hk N_0
    rw [outsAt0_B m c ⟨k + 1, hk⟩ (by simp only; omega)]
    dsimp only
    rw [carried_B]
    exact carriedBlock_holds (staged m c ⟨k + 1, hk⟩) (state_holds k _)

/-- What a point stores is the reference's chunk. -/
theorem stored_eq (b : Fin 16) (i : Fin 128) (q : Fin 512) :
    (outsAt0 m c t.val t.isLt).1 (ix3 b i q)
      = ReferenceIdeal.Read.val_main_v247 (F := Ideal) (m ((c : Thread nD τ).loc main_arg0)) (ix3 b (pos (chunk t) i) q) := by
  have hq : q = ⟨128 * (q.val / 128) + q.val % 128, by omega⟩ := Fin.ext (by simp only; omega)
  have h16 : t.val < 16 := lt_of_lt_of_eq t.isLt N_0
  by_cases h0 : t.val % 16 = 0
  · have hs : Holds (m ((c : Thread nD τ).loc main_arg0)) (chunk t).val (0 : Vec Ideal S16x4x128x128 .f32) := by
      rw [show (chunk t).val = 0 by simp only [chunk]; omega]
      exact holds_zero _
    rw [outsAt0_A m c t h0]
    dsimp only
    rw [stored_A]
    refine (storedAt_eq (staged m c t) hs b ⟨q.val / 128, by omega⟩ i ⟨q.val % 128, by omega⟩).trans ?_
    exact congrArg (fun q => ReferenceIdeal.Read.val_main_v247 (F := Ideal) _ (ix3 b (pos (chunk t) i) q)) hq.symm
  · have hs : Holds (m ((c : Thread nD τ).loc main_arg0)) (chunk t).val
        (outsAt0 m c (t.val - 1) (Nat.lt_of_le_of_lt (Nat.sub_le _ _) t.isLt)).2 := by
      rw [show (chunk t).val = t.val - 1 + 1 by simp only [chunk]; omega]
      exact state_holds m c _ _
    rw [outsAt0_B m c t h0]
    dsimp only
    rw [stored_B]
    refine (storedAt_eq (staged m c t) hs b ⟨q.val / 128, by omega⟩ i ⟨q.val % 128, by omega⟩).trans ?_
    exact congrArg (fun q => ReferenceIdeal.Read.val_main_v247 (F := Ideal) _ (ix3 b (pos (chunk t) i) q)) hq.symm

/-- The result after the run is the reference's. -/
theorem final10 : (dats m 0 c).arrAt 10 cfg0.N
    = ReferenceIdeal.Read.val_main_v247 (F := Ideal) (m ((c : Thread nD τ).loc main_arg0)) := by
  refine (dats m 0 c).arrAt_eq_of_covers 10 _ (by decide +kernel) fun t hf y => ?_
  obtain ⟨b, i, q, rfl⟩ : ∃ (b : Fin 16) (i : Fin 128) (q : Fin 512), y = ix3 b i q := ⟨y 0, y 1, y 2, eq_ix3 y⟩
  have e : ((cfg0.win 10).blk t).view.emb (ix3 b i q) = (ix3 b (pos (chunk t) i) q : S16x2048x512.Idx) := by
    blk_ext [index10, chunk, pos]
  rw [e]
  blk_simp
  rw [after0_10]
  exact stored_eq m c t b i q

end Cert.KernelIdeal.Sum
-- ==== Proof.lean ====
module

public import proofs.«01_k».proof.Defs
public import proofs.«01_k».proof.Proof.First
public import proofs.«01_k».proof.Proof.Last
public import proofs.«01_k».proof.Proof.Mid
public import proofs.«01_k».proof.Proof.Wide
public import proofs.«01_k».proof.Proof.Retention
public import proofs.«01_k».proof.Proof.Gen.FirstIdeal.Value
public import proofs.«01_k».proof.Proof.Gen.LastIdeal.Value
public import proofs.«01_k».proof.Proof.Gen.MidIdeal.Value
public import proofs.«01_k».proof.Proof.Gen.FirstRefIdeal.Read
public import proofs.«01_k».proof.Proof.Gen.LastRefIdeal.Read
public import proofs.«01_k».proof.Proof.Gen.MidRefIdeal.Read
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstRefIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.WideIdeal.Value
public import proofs.«01_k».proof.Proof.Gen.WideRefIdeal.Read
public import proofs.«01_k».proof.Proof.Gen.Wide
public import proofs.«01_k».proof.Proof.Gen.Wide.Skeleton
public import proofs.«01_k».proof.Proof.Gen.Wide.Launch
public import proofs.«01_k».proof.Proof.Gen.Wide.Points
public import proofs.«01_k».proof.Proof.Gen.Wide.Frame
public import proofs.«01_k».proof.Proof.Gen.WideIdeal
public import proofs.«01_k».proof.Proof.Gen.WideIdeal.Skeleton
public import proofs.«01_k».proof.Proof.Gen.WideIdeal.Launch
public import proofs.«01_k».proof.Proof.Gen.WideIdeal.Points
public import proofs.«01_k».proof.Proof.Gen.WideIdeal.Frame
public import proofs.«01_k».proof.Proof.Gen.WideRefIdeal
public import proofs.«01_k».proof.Proof.Gen.KernelIdeal.Value
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.SL.Sem

/-! ## Retention -/

theorem frame_Reference : quiescent_ReferenceIdeal (hReferenceIdeal := ReferenceIdeal.Gen.facts) := fun m ρ _ =>
  (θ_run _ _ _).mono (fun _ h => ⟨fun c => (h c).2, sem_eq_zero_of_no_sems rfl _⟩)
    (ReferenceIdeal.Value.run (F := Ideal) m ρ)

theorem preserves_Kernel : preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

theorem algebraic_Kernel : algebraic_KernelIdeal_ReferenceIdeal (hKernelIdeal := KernelIdeal.Gen.facts)
    (hReferenceIdeal := ReferenceIdeal.Gen.facts) := fun m ρ m' ρ' _ hag =>
  ⟨fun c => ReferenceIdeal.Read.val_main_v247 (F := Ideal)
      (m ((c : Thread KernelIdeal.nD KernelIdeal.τ).loc KernelIdeal.main_arg0)),
    (θ_run _ _ _).mono (fun _ h c => ⟨(h c).1.trans (KernelIdeal.Sum.final10 m c), (h c).2⟩)
      (KernelIdeal.Value.run_blocks (F := Ideal) m ρ),
    (θ_run _ _ _).mono (fun _ h c =>
        ⟨(h c).1.trans ((ReferenceIdeal.Read.val_main_v247_eq _).trans (congrArg _ (hag c))), (h c).2⟩)
      (ReferenceIdeal.Value.run (F := Ideal) m' ρ')⟩

/-! ## Input projection -/

theorem frame_FirstRef : quiescent_FirstRefIdeal (hFirstRefIdeal := FirstRefIdeal.Gen.facts) := fun m ρ _ =>
  (θ_run _ _ _).mono (fun _ h => ⟨fun c => (h c).2, sem_eq_zero_of_no_sems rfl _⟩)
    (FirstRefIdeal.Value.run (F := Ideal) m ρ)

theorem algebraic_First : algebraic_FirstIdeal_FirstRefIdeal (hFirstIdeal := FirstIdeal.Gen.facts)
    (hFirstRefIdeal := FirstRefIdeal.Gen.facts) := fun m ρ m' ρ' _ hag =>
  ⟨fun c => FirstRefIdeal.Read.val_main_v14 (F := Ideal) (m ((c : Thread FirstIdeal.nD FirstIdeal.τ).loc FirstIdeal.main_arg0))
      (m ((c : Thread FirstIdeal.nD FirstIdeal.τ).loc FirstIdeal.main_arg1))
      (m ((c : Thread FirstIdeal.nD FirstIdeal.τ).loc FirstIdeal.main_arg2)),
    (θ_run _ _ _).mono (fun _ h c => ⟨(h c).1.trans (FirstIdeal.Sum.final m c), (h c).2⟩)
      (FirstIdeal.Value.run_blocks (F := Ideal) m ρ),
    (θ_run _ _ _).mono (fun _ h c => ⟨(h c).1.trans (by
        obtain ⟨h0, h1, h2⟩ := hag c
        rw [h0, h1, h2]; rfl), (h c).2⟩) (FirstRefIdeal.Value.run (F := Ideal) m' ρ')⟩

/-! ## Output projection -/

theorem frame_LastRef : quiescent_LastRefIdeal (hLastRefIdeal := LastRefIdeal.Gen.facts) := fun m ρ _ =>
  (θ_run _ _ _).mono (fun _ h => ⟨fun c => (h c).2, sem_eq_zero_of_no_sems rfl _⟩)
    (LastRefIdeal.Value.run (F := Ideal) m ρ)

theorem algebraic_Last : algebraic_LastIdeal_LastRefIdeal (hLastIdeal := LastIdeal.Gen.facts)
    (hLastRefIdeal := LastRefIdeal.Gen.facts) := fun m ρ m' ρ' _ hag =>
  ⟨fun c => LastRefIdeal.Read.val_main_v16 (F := Ideal) (m ((c : Thread LastIdeal.nD LastIdeal.τ).loc LastIdeal.main_arg0))
      (m ((c : Thread LastIdeal.nD LastIdeal.τ).loc LastIdeal.main_arg1))
      (m ((c : Thread LastIdeal.nD LastIdeal.τ).loc LastIdeal.main_arg2))
      (m ((c : Thread LastIdeal.nD LastIdeal.τ).loc LastIdeal.main_arg3))
      (m ((c : Thread LastIdeal.nD LastIdeal.τ).loc LastIdeal.main_arg4)),
    (θ_run _ _ _).mono (fun _ h c => ⟨(h c).1.trans (LastIdeal.Sum.final m c), (h c).2⟩)
      (LastIdeal.Value.run_blocks (F := Ideal) m ρ),
    (θ_run _ _ _).mono (fun _ h c => ⟨(h c).1.trans (by
        obtain ⟨h0, h1, h2, h3, h4⟩ := hag c
        rw [h0, h1, h2, h3, h4]; rfl), (h c).2⟩) (LastRefIdeal.Value.run (F := Ideal) m' ρ')⟩

/-! ## Projection between two layers -/

theorem frame_MidRef : quiescent_MidRefIdeal (hMidRefIdeal := MidRefIdeal.Gen.facts) := fun m ρ _ =>
  (θ_run _ _ _).mono (fun _ h => ⟨fun c => (h c).2.2, sem_eq_zero_of_no_sems rfl _⟩)
    (MidRefIdeal.Value.run (F := Ideal) m ρ)

theorem algebraic_Mid : algebraic_MidIdeal_MidRefIdeal (hMidIdeal := MidIdeal.Gen.facts)
    (hMidRefIdeal := MidRefIdeal.Gen.facts) := fun m ρ m' ρ' _ hag =>
  ⟨_, _, (θ_run _ _ _).mono (fun _ h c => ⟨(h c).1.trans (MidIdeal.Sum.final7 m c), (h c).2.1.trans (MidIdeal.Sum.final8 m c),
      (h c).2.2⟩) (MidIdeal.Value.run_blocks (F := Ideal) m ρ),
    (θ_run _ _ _).mono (fun _ h c => by
        obtain ⟨r0, r1, h'⟩ := h c
        obtain ⟨h0, h1, h2, h3, h4, h5, h6⟩ := hag c
        refine ⟨r0.trans ?_, r1.trans ((MidRefIdeal.Read.val_main_v31_eq m' c).trans ?_), h'⟩
        · rw [h0, h1, h2, h3, h4]; rfl
        · rw [h0, h1, h2, h3, h4, h5, h6]) (MidRefIdeal.Value.run (F := Ideal) m' ρ')⟩

/-! ## The wider projection between two layers -/

theorem frame_WideRef : quiescent_WideRefIdeal (hWideRefIdeal := WideRefIdeal.Gen.facts) := fun m ρ _ =>
  (θ_run _ _ _).mono (fun _ h => ⟨fun c => (h c).2.2, sem_eq_zero_of_no_sems rfl _⟩)
    (WideRefIdeal.Value.run (F := Ideal) m ρ)

theorem algebraic_Wide : algebraic_WideIdeal_WideRefIdeal (hWideIdeal := WideIdeal.Gen.facts)
    (hWideRefIdeal := WideRefIdeal.Gen.facts) := fun m ρ m' ρ' _ hag =>
  ⟨_, _, (θ_run _ _ _).mono (fun _ h c => ⟨(h c).1.trans (WideIdeal.Sum.final7 m c), (h c).2.1.trans (WideIdeal.Sum.final8 m c),
      (h c).2.2⟩) (WideIdeal.Value.run_blocks (F := Ideal) m ρ),
    (θ_run _ _ _).mono (fun _ h c => by
        obtain ⟨r0, r1, h'⟩ := h c
        obtain ⟨h0, h1, h2, h3, h4, h5, h6⟩ := hag c
        refine ⟨r0.trans ?_, r1.trans ((WideRefIdeal.Read.val_main_v31_eq m' c).trans ?_), h'⟩
        · rw [h0, h1, h2, h3, h4]; rfl
        · rw [h0, h1, h2, h3, h4, h5, h6]) (WideRefIdeal.Value.run (F := Ideal) m' ρ')⟩

theorem claim : Cert.Claim :=
  ⟨Kernel.Gen.facts, KernelIdeal.Gen.facts, ReferenceIdeal.Gen.facts,
    Mid.Gen.facts, MidIdeal.Gen.facts, MidRefIdeal.Gen.facts, First.Gen.facts, FirstIdeal.Gen.facts,
    FirstRefIdeal.Gen.facts, Last.Gen.facts, LastIdeal.Gen.facts, LastRefIdeal.Gen.facts,
    Wide.Gen.facts, WideIdeal.Gen.facts, WideRefIdeal.Gen.facts,
    fun m ρ _ => Kernel.Gen.frame m ρ, fun m ρ _ => KernelIdeal.Gen.frame m ρ, frame_Reference,
    fun m ρ _ => Mid.Gen.frame m ρ, fun m ρ _ => MidIdeal.Gen.frame m ρ, frame_MidRef,
    fun m ρ _ => First.Gen.frame m ρ, fun m ρ _ => FirstIdeal.Gen.frame m ρ, frame_FirstRef,
    fun m ρ _ => Last.Gen.frame m ρ, fun m ρ _ => LastIdeal.Gen.frame m ρ, frame_LastRef,
    fun m ρ _ => Wide.Gen.frame m ρ, fun m ρ _ => WideIdeal.Gen.frame m ρ, frame_WideRef,
    preserves_Kernel, algebraic_Kernel,
    trivial, algebraic_Mid, trivial, algebraic_First, trivial, algebraic_Last, trivial, algebraic_Wide⟩

end Cert.Proof

end
